-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S8x1x1024 : Shape := ⟨3, ![8, 1, 1024]⟩
abbrev S8 : Shape := ⟨1, ![8]⟩
abbrev S1 : Shape := ⟨1, ![1]⟩
abbrev S_ : Shape := ⟨0, ![]⟩
abbrev S256x1024 : Shape := ⟨2, ![256, 1024]⟩
abbrev S256x256 : Shape := ⟨2, ![256, 256]⟩
abbrev S1x1024 : Shape := ⟨2, ![1, 1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S2048x1024, .f32⟩
  | .local _ .vmem, ⟨1, _⟩ => ⟨S2048x1024, .bf16⟩
  | .local _ .vmem, ⟨2, _⟩ => ⟨S8x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_26 : BitVec 32 := 1#32
  let v36 : BitVec 32 := Scalar.addi v2 c1_i32_26
  let c8_i32_27 : BitVec 32 := 8#32
  let c0_i32_28 : BitVec 32 := 0#32
  let v37 : BitVec 1 := Scalar.cmpi .eq c8_i32_27 c0_i32_28
  let c1_i32_29 : BitVec 32 := 1#32
  let v38 : BitVec 32 := Scalar.select v37 c1_i32_29 c8_i32_27
  let v39 : BitVec 32 := Scalar.remsi v36 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let c1_i32_34 : BitVec 32 := 1#32
  let v47 : BitVec 32 := Scalar.muli v46 c1_i32_34
  let v48 : BitVec 32 := Scalar.addi c0_i32_35 v47
  v48.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v49 : BitVec 32 := Scalar.addi v2 c2_i32_36
  let c8_i32_37 : BitVec 32 := 8#32
  let c0_i32_38 : BitVec 32 := 0#32
  let v50 : BitVec 1 := Scalar.cmpi .eq c8_i32_37 c0_i32_38
  let c1_i32_39 : BitVec 32 := 1#32
  let v51 : BitVec 32 := Scalar.select v50 c1_i32_39 c8_i32_37
  let v52 : BitVec 32 := Scalar.remsi v49 v51
  let c0_i32_41 : BitVec 32 := 0#32
  let v54 : BitVec 1 := Scalar.cmpi .slt v52 c0_i32_41
  let c0_i32_42 : BitVec 32 := 0#32
  let v55 : BitVec 1 := Scalar.cmpi .slt v51 c0_i32_42
  let v56 : BitVec 1 := Scalar.xori v54 v55
  let c0_i32_40 : BitVec 32 := 0#32
  let v53 : BitVec 1 := Scalar.cmpi .ne v52 c0_i32_40
  let v57 : BitVec 1 := Scalar.andi v56 v53
  let v58 : BitVec 32 := Scalar.addi v52 v51
  let v59 : BitVec 32 := Scalar.select v57 v58 v52
  let c1_i32_44 : BitVec 32 := 1#32
  let v60 : BitVec 32 := Scalar.muli v59 c1_i32_44
  let v61 : BitVec 32 := Scalar.addi c0_i32_45 v60
  v61.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_46 : BitVec 32 := 3#32
  let v62 : BitVec 32 := Scalar.addi v2 c3_i32_46
  let c8_i32_47 : BitVec 32 := 8#32
  let c0_i32_48 : BitVec 32 := 0#32
  let v63 : BitVec 1 := Scalar.cmpi .eq c8_i32_47 c0_i32_48
  let c1_i32_49 : BitVec 32 := 1#32
  let v64 : BitVec 32 := Scalar.select v63 c1_i32_49 c8_i32_47
  let v65 : BitVec 32 := Scalar.remsi v62 v64
  let c0_i32_51 : BitVec 32 := 0#32
  let v67 : BitVec 1 := Scalar.cmpi .slt v65 c0_i32_51
  let c0_i32_52 : BitVec 32 := 0#32
  let v68 : BitVec 1 := Scalar.cmpi .slt v64 c0_i32_52
  let v69 : BitVec 1 := Scalar.xori v67 v68
  let c0_i32_50 : BitVec 32 := 0#32
  let v66 : BitVec 1 := Scalar.cmpi .ne v65 c0_i32_50
  let v70 : BitVec 1 := Scalar.andi v69 v66
  let v71 : BitVec 32 := Scalar.addi v65 v64
  let v72 : BitVec 32 := Scalar.select v70 v71 v65
  let c1_i32_54 : BitVec 32 := 1#32
  let v73 : BitVec 32 := Scalar.muli v72 c1_i32_54
  let v74 : BitVec 32 := Scalar.addi c0_i32_55 v73
  v74.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v75 : BitVec 32 := Scalar.addi v2 c4_i32_56
  let c8_i32_57 : BitVec 32 := 8#32
  let c0_i32_58 : BitVec 32 := 0#32
  let v76 : BitVec 1 := Scalar.cmpi .eq c8_i32_57 c0_i32_58
  let c1_i32_59 : BitVec 32 := 1#32
  let v77 : BitVec 32 := Scalar.select v76 c1_i32_59 c8_i32_57
  let v78 : BitVec 32 := Scalar.remsi v75 v77
  let c0_i32_61 : BitVec 32 := 0#32
  let v80 : BitVec 1 := Scalar.cmpi .slt v78 c0_i32_61
  let c0_i32_62 : BitVec 32 := 0#32
  let v81 : BitVec 1 := Scalar.cmpi .slt v77 c0_i32_62
  let v82 : BitVec 1 := Scalar.xori v80 v81
  let c0_i32_60 : BitVec 32 := 0#32
  let v79 : BitVec 1 := Scalar.cmpi .ne v78 c0_i32_60
  let v83 : BitVec 1 := Scalar.andi v82 v79
  let v84 : BitVec 32 := Scalar.addi v78 v77
  let v85 : BitVec 32 := Scalar.select v83 v84 v78
  let c1_i32_64 : BitVec 32 := 1#32
  let v86 : BitVec 32 := Scalar.muli v85 c1_i32_64
  let v87 : BitVec 32 := Scalar.addi c0_i32_65 v86
  v87.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_66 : BitVec 32 := 5#32
  let v88 : BitVec 32 := Scalar.addi v2 c5_i32_66
  let c8_i32_67 : BitVec 32 := 8#32
  let c0_i32_68 : BitVec 32 := 0#32
  let v89 : BitVec 1 := Scalar.cmpi .eq c8_i32_67 c0_i32_68
  let c1_i32_69 : BitVec 32 := 1#32
  let v90 : BitVec 32 := Scalar.select v89 c1_i32_69 c8_i32_67
  let v91 : BitVec 32 := Scalar.remsi v88 v90
  let c0_i32_71 : BitVec 32 := 0#32
  let v93 : BitVec 1 := Scalar.cmpi .slt v91 c0_i32_71
  let c0_i32_72 : BitVec 32 := 0#32
  let v94 : BitVec 1 := Scalar.cmpi .slt v90 c0_i32_72
  let v95 : BitVec 1 := Scalar.xori v93 v94
  let c0_i32_70 : BitVec 32 := 0#32
  let v92 : BitVec 1 := Scalar.cmpi .ne v91 c0_i32_70
  let v96 : BitVec 1 := Scalar.andi v95 v92
  let v97 : BitVec 32 := Scalar.addi v91 v90
  let v98 : BitVec 32 := Scalar.select v96 v97 v91
  let c1_i32_74 : BitVec 32 := 1#32
  let v99 : BitVec 32 := Scalar.muli v98 c1_i32_74
  let v100 : BitVec 32 := Scalar.addi c0_i32_75 v99
  v100.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_76 : BitVec 32 := 6#32
  let v101 : BitVec 32 := Scalar.addi v2 c6_i32_76
  let c8_i32_77 : BitVec 32 := 8#32
  let c0_i32_78 : BitVec 32 := 0#32
  let v102 : BitVec 1 := Scalar.cmpi .eq c8_i32_77 c0_i32_78
  let c1_i32_79 : BitVec 32 := 1#32
  let v103 : BitVec 32 := Scalar.select v102 c1_i32_79 c8_i32_77
  let v104 : BitVec 32 := Scalar.remsi v101 v103
  let c0_i32_81 : BitVec 32 := 0#32
  let v106 : BitVec 1 := Scalar.cmpi .slt v104 c0_i32_81
  let c0_i32_82 : BitVec 32 := 0#32
  let v107 : BitVec 1 := Scalar.cmpi .slt v103 c0_i32_82
  let v108 : BitVec 1 := Scalar.xori v106 v107
  let c0_i32_80 : BitVec 32 := 0#32
  let v105 : BitVec 1 := Scalar.cmpi .ne v104 c0_i32_80
  let v109 : BitVec 1 := Scalar.andi v108 v105
  let v110 : BitVec 32 := Scalar.addi v104 v103
  let v111 : BitVec 32 := Scalar.select v109 v110 v104
  let c1_i32_84 : BitVec 32 := 1#32
  let v112 : BitVec 32 := Scalar.muli v111 c1_i32_84
  let v113 : BitVec 32 := Scalar.addi c0_i32_85 v112
  v113.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_86 : BitVec 32 := 7#32
  let v114 : BitVec 32 := Scalar.addi v2 c7_i32_86
  let c8_i32_87 : BitVec 32 := 8#32
  let c0_i32_88 : BitVec 32 := 0#32
  let v115 : BitVec 1 := Scalar.cmpi .eq c8_i32_87 c0_i32_88
  let c1_i32_89 : BitVec 32 := 1#32
  let v116 : BitVec 32 := Scalar.select v115 c1_i32_89 c8_i32_87
  let v117 : BitVec 32 := Scalar.remsi v114 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let c1_i32_94 : BitVec 32 := 1#32
  let v125 : BitVec 32 := Scalar.muli v124 c1_i32_94
  let v126 : BitVec 32 := Scalar.addi c0_i32_95 v125
  v126.toNat
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_172 : BitVec 32 := 1#32
  let v249 : BitVec 32 := Scalar.addi v2 c1_i32_172
  let c8_i32_173 : BitVec 32 := 8#32
  let c0_i32_174 : BitVec 32 := 0#32
  let v250 : BitVec 1 := Scalar.cmpi .eq c8_i32_173 c0_i32_174
  let c1_i32_175 : BitVec 32 := 1#32
  let v251 : BitVec 32 := Scalar.select v250 c1_i32_175 c8_i32_173
  let v252 : BitVec 32 := Scalar.remsi v249 v251
  let c0_i32_177 : BitVec 32 := 0#32
  let v254 : BitVec 1 := Scalar.cmpi .slt v252 c0_i32_177
  let c0_i32_178 : BitVec 32 := 0#32
  let v255 : BitVec 1 := Scalar.cmpi .slt v251 c0_i32_178
  let v256 : BitVec 1 := Scalar.xori v254 v255
  let c0_i32_176 : BitVec 32 := 0#32
  let v253 : BitVec 1 := Scalar.cmpi .ne v252 c0_i32_176
  let v257 : BitVec 1 := Scalar.andi v256 v253
  let v258 : BitVec 32 := Scalar.addi v252 v251
  let v259 : BitVec 32 := Scalar.select v257 v258 v252
  let c1_i32_183 : BitVec 32 := 1#32
  let v260 : BitVec 32 := Scalar.muli v259 c1_i32_183
  let v261 : BitVec 32 := Scalar.addi c0_i32_184 v260
  v261.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_189 : BitVec 32 := 2#32
  let v270 : BitVec 32 := Scalar.addi v2 c2_i32_189
  let c8_i32_190 : BitVec 32 := 8#32
  let c0_i32_191 : BitVec 32 := 0#32
  let v271 : BitVec 1 := Scalar.cmpi .eq c8_i32_190 c0_i32_191
  let c1_i32_192 : BitVec 32 := 1#32
  let v272 : BitVec 32 := Scalar.select v271 c1_i32_192 c8_i32_190
  let v273 : BitVec 32 := Scalar.remsi v270 v272
  let c0_i32_194 : BitVec 32 := 0#32
  let v275 : BitVec 1 := Scalar.cmpi .slt v273 c0_i32_194
  let c0_i32_195 : BitVec 32 := 0#32
  let v276 : BitVec 1 := Scalar.cmpi .slt v272 c0_i32_195
  let v277 : BitVec 1 := Scalar.xori v275 v276
  let c0_i32_193 : BitVec 32 := 0#32
  let v274 : BitVec 1 := Scalar.cmpi .ne v273 c0_i32_193
  let v278 : BitVec 1 := Scalar.andi v277 v274
  let v279 : BitVec 32 := Scalar.addi v273 v272
  let v280 : BitVec 32 := Scalar.select v278 v279 v273
  let c1_i32_200 : BitVec 32 := 1#32
  let v281 : BitVec 32 := Scalar.muli v280 c1_i32_200
  let v282 : BitVec 32 := Scalar.addi c0_i32_201 v281
  v282.toNat
def k0_dev10 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_206 : BitVec 32 := 3#32
  let v291 : BitVec 32 := Scalar.addi v2 c3_i32_206
  let c8_i32_207 : BitVec 32 := 8#32
  let c0_i32_208 : BitVec 32 := 0#32
  let v292 : BitVec 1 := Scalar.cmpi .eq c8_i32_207 c0_i32_208
  let c1_i32_209 : BitVec 32 := 1#32
  let v293 : BitVec 32 := Scalar.select v292 c1_i32_209 c8_i32_207
  let v294 : BitVec 32 := Scalar.remsi v291 v293
  let c0_i32_211 : BitVec 32 := 0#32
  let v296 : BitVec 1 := Scalar.cmpi .slt v294 c0_i32_211
  let c0_i32_212 : BitVec 32 := 0#32
  let v297 : BitVec 1 := Scalar.cmpi .slt v293 c0_i32_212
  let v298 : BitVec 1 := Scalar.xori v296 v297
  let c0_i32_210 : BitVec 32 := 0#32
  let v295 : BitVec 1 := Scalar.cmpi .ne v294 c0_i32_210
  let v299 : BitVec 1 := Scalar.andi v298 v295
  let v300 : BitVec 32 := Scalar.addi v294 v293
  let v301 : BitVec 32 := Scalar.select v299 v300 v294
  let c1_i32_217 : BitVec 32 := 1#32
  let v302 : BitVec 32 := Scalar.muli v301 c1_i32_217
  let v303 : BitVec 32 := Scalar.addi c0_i32_218 v302
  v303.toNat
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_223 : BitVec 32 := 4#32
  let v312 : BitVec 32 := Scalar.addi v2 c4_i32_223
  let c8_i32_224 : BitVec 32 := 8#32
  let c0_i32_225 : BitVec 32 := 0#32
  let v313 : BitVec 1 := Scalar.cmpi .eq c8_i32_224 c0_i32_225
  let c1_i32_226 : BitVec 32 := 1#32
  let v314 : BitVec 32 := Scalar.select v313 c1_i32_226 c8_i32_224
  let v315 : BitVec 32 := Scalar.remsi v312 v314
  let c0_i32_228 : BitVec 32 := 0#32
  let v317 : BitVec 1 := Scalar.cmpi .slt v315 c0_i32_228
  let c0_i32_229 : BitVec 32 := 0#32
  let v318 : BitVec 1 := Scalar.cmpi .slt v314 c0_i32_229
  let v319 : BitVec 1 := Scalar.xori v317 v318
  let c0_i32_227 : BitVec 32 := 0#32
  let v316 : BitVec 1 := Scalar.cmpi .ne v315 c0_i32_227
  let v320 : BitVec 1 := Scalar.andi v319 v316
  let v321 : BitVec 32 := Scalar.addi v315 v314
  let v322 : BitVec 32 := Scalar.select v320 v321 v315
  let c1_i32_234 : BitVec 32 := 1#32
  let v323 : BitVec 32 := Scalar.muli v322 c1_i32_234
  let v324 : BitVec 32 := Scalar.addi c0_i32_235 v323
  v324.toNat
def k0_dev12 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_240 : BitVec 32 := 5#32
  let v333 : BitVec 32 := Scalar.addi v2 c5_i32_240
  let c8_i32_241 : BitVec 32 := 8#32
  let c0_i32_242 : BitVec 32 := 0#32
  let v334 : BitVec 1 := Scalar.cmpi .eq c8_i32_241 c0_i32_242
  let c1_i32_243 : BitVec 32 := 1#32
  let v335 : BitVec 32 := Scalar.select v334 c1_i32_243 c8_i32_241
  let v336 : BitVec 32 := Scalar.remsi v333 v335
  let c0_i32_245 : BitVec 32 := 0#32
  let v338 : BitVec 1 := Scalar.cmpi .slt v336 c0_i32_245
  let c0_i32_246 : BitVec 32 := 0#32
  let v339 : BitVec 1 := Scalar.cmpi .slt v335 c0_i32_246
  let v340 : BitVec 1 := Scalar.xori v338 v339
  let c0_i32_244 : BitVec 32 := 0#32
  let v337 : BitVec 1 := Scalar.cmpi .ne v336 c0_i32_244
  let v341 : BitVec 1 := Scalar.andi v340 v337
  let v342 : BitVec 32 := Scalar.addi v336 v335
  let v343 : BitVec 32 := Scalar.select v341 v342 v336
  let c1_i32_251 : BitVec 32 := 1#32
  let v344 : BitVec 32 := Scalar.muli v343 c1_i32_251
  let v345 : BitVec 32 := Scalar.addi c0_i32_252 v344
  v345.toNat
def k0_dev13 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_257 : BitVec 32 := 6#32
  let v354 : BitVec 32 := Scalar.addi v2 c6_i32_257
  let c8_i32_258 : BitVec 32 := 8#32
  let c0_i32_259 : BitVec 32 := 0#32
  let v355 : BitVec 1 := Scalar.cmpi .eq c8_i32_258 c0_i32_259
  let c1_i32_260 : BitVec 32 := 1#32
  let v356 : BitVec 32 := Scalar.select v355 c1_i32_260 c8_i32_258
  let v357 : BitVec 32 := Scalar.remsi v354 v356
  let c0_i32_262 : BitVec 32 := 0#32
  let v359 : BitVec 1 := Scalar.cmpi .slt v357 c0_i32_262
  let c0_i32_263 : BitVec 32 := 0#32
  let v360 : BitVec 1 := Scalar.cmpi .slt v356 c0_i32_263
  let v361 : BitVec 1 := Scalar.xori v359 v360
  let c0_i32_261 : BitVec 32 := 0#32
  let v358 : BitVec 1 := Scalar.cmpi .ne v357 c0_i32_261
  let v362 : BitVec 1 := Scalar.andi v361 v358
  let v363 : BitVec 32 := Scalar.addi v357 v356
  let v364 : BitVec 32 := Scalar.select v362 v363 v357
  let c1_i32_268 : BitVec 32 := 1#32
  let v365 : BitVec 32 := Scalar.muli v364 c1_i32_268
  let v366 : BitVec 32 := Scalar.addi c0_i32_269 v365
  v366.toNat
def k0_dev14 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v375 : BitVec 32 := Scalar.addi v2 c7_i32_274
  let c8_i32_275 : BitVec 32 := 8#32
  let c0_i32_276 : BitVec 32 := 0#32
  let v376 : BitVec 1 := Scalar.cmpi .eq c8_i32_275 c0_i32_276
  let c1_i32_277 : BitVec 32 := 1#32
  let v377 : BitVec 32 := Scalar.select v376 c1_i32_277 c8_i32_275
  let v378 : BitVec 32 := Scalar.remsi v375 v377
  let c0_i32_279 : BitVec 32 := 0#32
  let v380 : BitVec 1 := Scalar.cmpi .slt v378 c0_i32_279
  let c0_i32_280 : BitVec 32 := 0#32
  let v381 : BitVec 1 := Scalar.cmpi .slt v377 c0_i32_280
  let v382 : BitVec 1 := Scalar.xori v380 v381
  let c0_i32_278 : BitVec 32 := 0#32
  let v379 : BitVec 1 := Scalar.cmpi .ne v378 c0_i32_278
  let v383 : BitVec 1 := Scalar.andi v382 v379
  let v384 : BitVec 32 := Scalar.addi v378 v377
  let v385 : BitVec 32 := Scalar.select v383 v384 v378
  let c1_i32_285 : BitVec 32 := 1#32
  let v386 : BitVec 32 := Scalar.muli v385 c1_i32_285
  let v387 : BitVec 32 := Scalar.addi c0_i32_286 v386
  v387.toNat
-- ==== ReferenceIdeal.lean ====
abbrev S16384x1024 : Shape := ⟨2, ![16384, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S_, .f32⟩
  | .hbm, ⟨3, _⟩ => ⟨S16384x1024, .f32⟩
  | .hbm, ⟨4, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Cells.lean ====
/-
# The buffers, the semaphores and the contents

The kernel's five buffers are used in pieces: the argument `x`, its copy in VMEM, the block of prefix sums and the
result in eight chunks of 256 rows, the table of totals in eight slots of one row. This module names the pieces and the
semaphores, generically in the chunk or the slot, and writes down what every piece holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.Scan

open Cert.KernelIdeal Cert.KernelIdeal.Gen
open Idealize.ShloMosaic
open Idealize.ShloMosaic.TcCoe

variable {F : FTy → Type} [FloatOps F]

/-! ## Devices around the ring -/

/-- The device `o` places after `c`. -/
def fwd (c : Dev nD) (o : Fin 8) : Dev nD := ⟨(c.val + o.val) % 8, Nat.mod_lt _ (by decide)⟩
/-- The device `o` places before `c`. -/
def bwd (c : Dev nD) (o : Fin 8) : Dev nD := ⟨(c.val + (8 - o.val)) % 8, Nat.mod_lt _ (by decide)⟩
/-- The offset that undoes `o`. -/
def opp (o : Fin 8) : Fin 8 := ⟨(8 - o.val) % 8, Nat.mod_lt _ (by decide)⟩

theorem bwd_fwd (c : Dev nD) (o : Fin 8) : bwd (fwd c o) o = c := by revert c o; decide
theorem fwd_bwd (c : Dev nD) (o : Fin 8) : fwd (bwd c o) o = c := by revert c o; decide
theorem fwd_opp (c : Dev nD) (o : Fin 8) : fwd c (opp o) = bwd c o := by revert c o; decide
theorem opp_opp (o : Fin 8) : opp (opp o) = o := by revert o; decide
theorem bwd_opp (c : Dev nD) (o : Fin 8) : bwd c (opp o) = fwd c o := by revert c o; decide
theorem fwd_inj (o : Fin 8) : Function.Injective (fun c : Dev nD => fwd c o) :=
  fun a b e => by rw [← bwd_fwd a o, ← bwd_fwd b o]; exact congrArg (fun d => bwd d o) e

/-- Shifting by `o` places, as a permutation of the devices. -/
def shift (o : Fin 8) : Dev nD ≃ Dev nD := ⟨fun c => fwd c o, fun c => bwd c o, fun c => bwd_fwd c o, fun c => fwd_bwd c o⟩

/-! ## Chunks and slots -/

theorem chunk_inb (k : Fin 8) : ∀ a, (![256 * k.val, 0] : Fin 2 → ℕ) a + S256x1024.size a ≤ S2048x1024.size a := by
  revert k; decide
theorem slot_inb (o : Fin 8) : ∀ a, (![o.val, 0, 0] : Fin 3 → ℕ) a + S1x1x1024.size a ≤ S8x1x1024.size a := by
  revert o; decide
theorem sem_inb (o : Fin 8) : ∀ a, (![o.val] : Fin 1 → ℕ) a + S1.size a ≤ S8.size a := by revert o; decide

/-- Rows `256 k … 256 k + 255`. -/
abbrev chunkR (k : Fin 8) : Rect S2048x1024 := Rect.unit (s := S2048x1024) ![256 * k.val, 0] S256x1024.size (chunk_inb k)
/-- Row `o` of the table of totals. -/
abbrev slotR (o : Fin 8) : Rect S8x1x1024 := Rect.unit (s := S8x1x1024) ![o.val, 0, 0] S1x1x1024.size (slot_inb o)

abbrev xM : Memref sig .tc .hbm S2048x1024 .f32 := Memref.whole main_arg0
abbrev oM : Memref sig .tc .hbm S2048x1024 .bf16 := Memref.whole main_v1
abbrev vM : Memref sig .tc .vmem S2048x1024 .f32 := Memref.whole cc0_scratch0
abbrev wM : Memref sig .tc .vmem S2048x1024 .bf16 := Memref.whole cc0_scratch1
abbrev tM : Memref sig .tc .vmem S8x1x1024 .f32 := Memref.whole cc0_scratch2

/-- Chunk `k` of the argument, of its copy, of the prefix sums, of the result. -/
abbrev xC (k : Fin 8) : Memref sig .tc .hbm S256x1024 .f32 := xM.slice (chunkR k) (fun _ => rfl)
abbrev vC (k : Fin 8) : Memref sig .tc .vmem S256x1024 .f32 := vM.slice (chunkR k) (fun _ => rfl)
abbrev wC (k : Fin 8) : Memref sig .tc .vmem S256x1024 .bf16 := wM.slice (chunkR k) (fun _ => rfl)
abbrev oC (k : Fin 8) : Memref sig .tc .hbm S256x1024 .bf16 := oM.slice (chunkR k) (fun _ => rfl)
/-- Slot `o` of the totals, as loads and stores see it, -/
abbrev tC (o : Fin 8) : Memref sig .tc .vmem S1x1x1024 .f32 := tM.slice (slotR o) (fun _ => rfl)
/-- and as the copies see it. -/
abbrev tS (o : Fin 8) : Memref sig .tc .vmem S1x1024 .f32 := (tC o).squeeze S1x1024 squeezes_S1x1x1024_S1x1024

/-! ## Semaphores -/

/-- Entry `o` of an array of eight DMA semaphores. -/
abbrev pick (A : DmaSems sig S8) (o : Fin 8) : DmaSem sig :=
  ((A.slice (Rect.unit (s := S8) ![o.val] S1.size (sem_inb o))).squeeze S_ squeezes_S1_S_).sem

abbrev inS (k : Fin 8) : DmaSem sig := pick cc0_scratch3 k
abbrev outS (k : Fin 8) : DmaSem sig := pick cc0_scratch4 k
abbrev sendS (o : Fin 8) : DmaSem sig := pick cc0_scratch5 o
abbrev recvS (o : Fin 8) : DmaSem sig := pick cc0_scratch6 o
abbrev barS : Sem sig := (SemArray.scalar (sig.barrier 0 rfl) : Sems sig S_).sem

theorem inS_val (k : Fin 8) : (inS k).val = k.val := by revert k; decide
theorem outS_val (k : Fin 8) : (outS k).val = 8 + k.val := by revert k; decide
theorem sendS_val (o : Fin 8) : (sendS o).val = 16 + o.val := by revert o; decide
theorem recvS_val (o : Fin 8) : (recvS o).val = 24 + o.val := by revert o; decide

/-- What a semaphore of the core is for. -/
inductive Role where
  | bar | send (o : Fin 8) | recv (o : Fin 8) | other
  deriving DecidableEq

/-- The barrier semaphore; entries 16–23 of the DMA semaphores announce departures, 24–31 arrivals. -/
def role : SemLoc sig → Role
  | .reg s => if s = barS then .bar else .other
  | .dma s =>
    if 24 ≤ s.val then .recv ⟨(s.val - 24) % 8, Nat.mod_lt _ (by decide)⟩
    else if 16 ≤ s.val then .send ⟨(s.val - 16) % 8, Nat.mod_lt _ (by decide)⟩
    else .other

theorem role_bar : role (.reg barS) = .bar := by decide
theorem role_send (o : Fin 8) : role (.dma (sendS o)) = .send o := by revert o; decide
theorem role_recv (o : Fin 8) : role (.dma (recvS o)) = .recv o := by revert o; decide
theorem role_in (k : Fin 8) : role (.dma (inS k)) = .other := by revert k; decide
theorem role_out (k : Fin 8) : role (.dma (outS k)) = .other := by revert k; decide

abbrev barCell (c : Dev nD) : GSem nD τ sig := ((c : Thread nD τ), .reg barS)
abbrev sendCell (c : Dev nD) (o : Fin 8) : GSem nD τ sig := ((c : Thread nD τ), .dma (sendS o))
abbrev recvCell (c : Dev nD) (o : Fin 8) : GSem nD τ sig := ((c : Thread nD τ), .dma (recvS o))

/-- The units a copy of one row of totals announces. -/
abbrev N : ℕ := (tS 0).view.dmaCredit
theorem N_pos : 0 < N := View.dmaCredit_pos _ (by decide)

end Cert.Scan

end
-- ==== Proof.Contents.lean ====
/-
# What every piece of memory holds

The kernel's values as functions of the eight chunks of a device's own block: the running column sums, the row of totals
it sends, the sum of the totals of the devices before it, the chunks of the result. Each is stated once, generically in
the chunk; the payloads of the printed kernel are these by unfolding.
-/
module

public import proofs.«01_k».proof.Proof.Cells

@[expose] public section

noncomputable section

namespace Cert.Scan

open Cert.KernelIdeal Cert.KernelIdeal.Gen
open Idealize.ShloMosaic
open Idealize.ShloMosaic.TcCoe

variable {F : FTy → Type} [FloatOps F]

/-- A device's block, chunk by chunk. -/
abbrev Chunks (F : FTy → Type) : Type := Fin 8 → Vec F S256x1024 .f32

/-- The lower triangle of ones the kernel multiplies by. -/
abbrev tri : FVec F S256x256 .bf16 := k0_pay1

/-- A chunk's running sums, the row `carry` added to each. -/
def step (carry : FVec F S1x1024 .f32) (x : Vec F S256x1024 .f32) : FVec F S256x1024 .f32 := k0_pay5 tri carry x

/-- The last row of a chunk. -/
def lastRow (y : FVec F S256x1024 .f32) : FVec F S1x1024 .f32 :=
  extractStridedSlice S1x1024 ![255, 0] y slices_S256x1024_o255_0_S1x1024

/-- The column sums of the chunks before the `k`-th. -/
def carry (xs : Chunks F) : ℕ → FVec F S1x1024 .f32
  | 0 => broadcast S1x1024 (Scalar.ofBits .f32 0x00000000#32)
  | k + 1 => if h : k < 8 then lastRow (step (carry xs k) (xs ⟨k, h⟩)) else carry xs k

/-- Chunk `k`'s running sums over the block, before rounding, -/
def cumF (xs : Chunks F) (k : Fin 8) : FVec F S256x1024 .f32 := step (carry xs k.val) (xs k)
/-- and as stored. -/
def cum (xs : Chunks F) (k : Fin 8) : FVec F S256x1024 .bf16 :=
  shapeCast S256x1024 (truncf .bf16 (cumF xs k) bitsLt_bf16_f32) shapeCasts_S256x1024_S256x1024

/-- The block's row of totals, as the device stores and sends it. -/
def total (xs : Chunks F) : FVec F S1x1x1024 .f32 :=
  shapeCast S1x1x1024 (lastRow (cumF xs 7)) shapeCasts_S1x1024_S1x1x1024

theorem carry_succ (xs : Chunks F) (k : Fin 8) : carry xs (k.val + 1) = lastRow (cumF xs k) := dif_pos k.isLt

theorem carry1 (xs : Chunks F) : carry xs 1 = lastRow (cumF xs 0) := carry_succ xs 0
theorem carry2 (xs : Chunks F) : carry xs 2 = lastRow (cumF xs 1) := carry_succ xs 1
theorem carry3 (xs : Chunks F) : carry xs 3 = lastRow (cumF xs 2) := carry_succ xs 2
theorem carry4 (xs : Chunks F) : carry xs 4 = lastRow (cumF xs 3) := carry_succ xs 3
theorem carry5 (xs : Chunks F) : carry xs 5 = lastRow (cumF xs 4) := carry_succ xs 4
theorem carry6 (xs : Chunks F) : carry xs 6 = lastRow (cumF xs 5) := carry_succ xs 5
theorem carry7 (xs : Chunks F) : carry xs 7 = lastRow (cumF xs 6) := carry_succ xs 6

/-! The printed payloads are these. -/

theorem pay3_eq (xs : Chunks F) : k0_pay3 (xs 0) = cum xs 0 := rfl
theorem pay4_eq (xs : Chunks F) : k0_pay4 (xs 0) = carry xs 1 := (carry1 xs).symm
theorem pay6_eq (xs : Chunks F) : k0_pay6 tri (carry xs 1) (xs 1) = cum xs 1 := rfl
theorem pay8_eq (xs : Chunks F) : k0_pay8 tri (carry xs 1) (xs 1) (xs 2) = cum xs 2 := by
  unfold cum cumF; rw [show (2 : Fin 8).val = 2 from rfl, carry2]; rfl
theorem pay9_eq (xs : Chunks F) : k0_pay9 tri (carry xs 1) (xs 1) (xs 2) (xs 3) = cumF xs 3 := by
  unfold cumF; rw [show (3 : Fin 8).val = 3 from rfl, carry3]
  unfold cumF; rw [show (2 : Fin 8).val = 2 from rfl, carry2]; rfl
theorem pay11_eq (xs : Chunks F) : k0_pay11 (k0_pay10 tri (carry xs 1) (xs 1) (xs 2) (xs 3)) = cum xs 3 := by
  unfold cum; rw [← pay9_eq]; rfl
theorem pay13_eq (xs : Chunks F) : k0_pay13 tri (cumF xs 3) (xs 4) = cum xs 4 := by
  unfold cum; rw [cumF.eq_def xs 4, show (4 : Fin 8).val = 4 from rfl, carry4]; rfl
theorem pay14_eq (xs : Chunks F) : k0_pay14 tri (cumF xs 3) (xs 4) (xs 5) = cumF xs 5 := by
  rw [cumF.eq_def xs 5, show (5 : Fin 8).val = 5 from rfl, carry5, cumF.eq_def xs 4, show (4 : Fin 8).val = 4 from rfl, carry4]; rfl
theorem pay15_eq (xs : Chunks F) : k0_pay15 tri (cumF xs 3) (xs 4) (xs 5) = cum xs 5 := by
  unfold cum; rw [← pay14_eq]; rfl
theorem pay16_eq (xs : Chunks F) : k0_pay16 tri (cumF xs 3) (xs 4) (xs 5) = carry xs 6 := by
  rw [carry6, ← pay14_eq]; rfl
theorem pay18_eq (xs : Chunks F) : k0_pay18 tri (carry xs 6) (xs 6) = cum xs 6 := rfl
theorem pay19_eq (xs : Chunks F) : k0_pay19 tri (carry xs 6) (xs 6) (xs 7) = cumF xs 7 := by
  rw [cumF.eq_def xs 7, show (7 : Fin 8).val = 7 from rfl, carry7]; rfl
theorem pay20_eq (xs : Chunks F) : k0_pay20 tri (carry xs 6) (xs 6) (xs 7) = cum xs 7 := by
  unfold cum; rw [← pay19_eq]; rfl
theorem pay21_eq (xs : Chunks F) : k0_pay21 tri (carry xs 6) (xs 6) (xs 7) = total xs := by
  unfold total; rw [← pay19_eq]; rfl

/-! ## The totals of the devices before -/

/-- The device's word, as the kernel computes it from its id. -/
def devWord (c : Dev nD) : BitVec 32 := Scalar.remsi (Scalar.divsi (Dev.word c) 1#32) 8#32

/-- The sum of the rows `t 1 … t 7` of totals that come from devices before this one. -/
def cross (c : Dev nD) (t : Fin 8 → Vec F S1x1x1024 .f32) : FVec F S1x1024 .f32 :=
  k0_pay24 (devWord c) (k0_pay22 (devWord c) (t 1)) (Scalar.cmpi .sge (devWord c) 2#32) (k0_pay23 (t 2))
    (Scalar.ofBits .f32 0x00000000#32) (t 3) (t 4) (t 5) (t 6) (t 7)

/-- A chunk of the result: the chunk's running sums, the row added to each, rounded. -/
def final (row : FVec F S1x1024 .f32) (w : Vec F S256x1024 .bf16) : FVec F S256x1024 .bf16 := k0_pay25 row w

/-! ## From the launch memory -/

variable (m : (ℓ : Loc nD τ sig) → Buf (Elt F) ℓ)

/-- Device `c`'s argument. -/
abbrev argAt (c : Dev nD) : (main_arg0 : Ref sig .tc).ty.Contents (Elt F) := m ((c : Thread nD τ).loc main_arg0)

/-- Device `c`'s chunks. -/
def chunksAt (c : Dev nD) : Chunks F := fun k j => argAt m c ((chunkR k).emb j)

/-- Device `c`'s row of totals. -/
def totAt (c : Dev nD) : Vec F S1x1x1024 .f32 := total (chunksAt m c)

/-- The row device `c` adds: what the devices before it sent. -/
def rowAt (c : Dev nD) : FVec F S1x1024 .f32 := cross c fun o => totAt m (bwd c o)

/-- Chunk `k` of device `c`'s result, -/
def finalAt (c : Dev nD) (k : Fin 8) : Vec F S256x1024 .bf16 := final (rowAt m c) (cum (chunksAt m c) k)

/-- The chunk a row of the block lies in, and its place there. -/
def chunkOf (i : S2048x1024.Idx) : Fin 8 := ⟨(i 0).val / 256, Nat.div_lt_of_lt_mul (i 0).isLt⟩
def placeOf (i : S2048x1024.Idx) : S256x1024.Idx := fun
  | ⟨0, _⟩ => ⟨(i 0).val % 256, Nat.mod_lt _ (by decide)⟩
  | ⟨1, _⟩ => ⟨(i 1).val, (i 1).isLt⟩

/-- and the whole result. -/
def outAt (c : Dev nD) : S2048x1024.Idx → Elt F .bf16 := fun i => finalAt m c (chunkOf i) (placeOf i)

theorem chunkOf_emb (k : Fin 8) (j : S256x1024.Idx) : chunkOf ((chunkR k).emb j) = k := by
  apply Fin.ext
  show (256 * k.val + 1 * (j 0).val) / 256 = k.val
  have : (j 0).val < 256 := (j 0).isLt
  omega

theorem placeOf_emb (k : Fin 8) (j : S256x1024.Idx) : placeOf ((chunkR k).emb j) = j := by
  funext a
  match a with
  | ⟨0, _⟩ =>
    apply Fin.ext
    show (256 * k.val + 1 * (j 0).val) % 256 = (j 0).val
    have : (j 0).val < 256 := (j 0).isLt
    omega
  | ⟨1, _⟩ =>
    apply Fin.ext
    show 0 + 1 * (j 1).val = (j 1).val
    omega

theorem outAt_emb (c : Dev nD) (k : Fin 8) : (fun j => outAt m c ((chunkR k).emb j)) = finalAt m c k := by
  funext j; unfold outAt; rw [chunkOf_emb, placeOf_emb]

end Cert.Scan

end
-- ==== Proof.Schedule.lean ====
/-
# The schedule of the semaphores

Each device first tells every other device that its table of totals may be written (one unit on the other's barrier
semaphore), waits until all seven others have told it the same, and then sends its row of totals to each of them. So:

* the barrier cell of device `c` is waited on by `c` for seven units; unit `o` comes from the device `o` places before `c`
  and hands over that device's slot `opp o`, the slot that `c`'s own row will land in;
* the departure cell `o` of device `c` gets the units of the copy `o` places on and hands back the share of slot 0 that
  the copy read, holding `c`'s own row of totals;
* the arrival cell `o` of device `c` gets the units of the copy from `o` places back and hands over `c`'s slot `o`, holding
  that device's row of totals.

Everything happens in one round. The semaphores of the copies within a device are not part of the schedule.
-/
module

public import proofs.«01_k».proof.Proof.Contents

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch library's, the schedule's, and counters for the copies within a device -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
abbrev EC : UEmb Counters (MT nD τ sig Unit (Elt F) ℕ UU ℕ) := countersEmb

instance ER_landsIn : (ER : Emb UB 𝕄).LandsIn (upEmb : UEmb _ 𝕄) := by unfold ER; infer_instance

variable (m : (ℓ : Loc nD τ sig) → Buf (Elt F) ℓ)

/-! ## Shares of slot 0 -/

/-- What is left of slot 0 after `n` copies have taken their share, -/
def rest : ℕ → PosShare TreeShare
  | 0 => fullShare
  | n + 1 => (rest n).right
/-- and the share copy `o` takes. -/
def part (o : Fin 8) : PosShare TreeShare := (rest (o.val - 1)).left

/-! ## The schedule -/

/-- The slot `opp o` of the device `o` places before `c`, holding anything. -/
def barPay (c : Dev nD) (o : Fin 8) : sProp 𝕄 := iprop(∃ v, owns (bwd c o : Thread nD τ) (tC (opp o)) fullShare v)
def sendPay (c : Dev nD) (o : Fin 8) : sProp 𝕄 := owns (c : Thread nD τ) (tC 0) (part o) (totAt m c)
def recvPay (c : Dev nD) (o : Fin 8) : sProp 𝕄 := owns (c : Thread nD τ) (tC o) fullShare (totAt m (bwd c o))

def ringRd : Rounds.Schedule (GSem nD τ sig) (Fin 8) 𝕄 where
  duties g r :=
    if r = 0 ∧ g.1.2 = .tc then
      match role g.2 with
      | .bar => Finset.univ.erase 0
      | .send o => if o = 0 then ∅ else {0}
      | .recv o => if o = 0 then ∅ else {0}
      | .other => ∅
    else ∅
  unitless _ := False
  amount g _ _ := match role g.2 with | .bar => 1 | _ => N
  payload g _ d :=
    match role g.2 with
    | .bar => barPay g.1.1 d
    | .send o => sendPay m g.1.1 o
    | .recv o => recvPay m g.1.1 o
    | .other => iprop(emp)
  amount_pos g _ _ _ := by
    cases role g.2 <;> first | exact Nat.one_pos | exact N_pos

instance ringRd_payload_storable (g : GSem nD τ sig) (r : ℕ) (d : Fin 8) :
    BI.Storable (upEmb : UEmb _ 𝕄) ((ringRd (F := F) m).payload g r d) := by
  show BI.Storable upEmb (match role g.2 with
    | .bar => barPay g.1.1 d | .send o => sendPay m g.1.1 o | .recv o => recvPay m g.1.1 o | .other => iprop(emp))
  unfold barPay recvPay sendPay
  split <;> infer_instance

section Sched
variable (c : Dev nD)

theorem duties_bar : (ringRd (F := F) m).duties (barCell c) 0 = Finset.univ.erase 0 := by
  dsimp only [ringRd]; rw [if_pos ⟨rfl, rfl⟩, role_bar]
theorem duties_send {o : Fin 8} (ho : o ≠ 0) : (ringRd (F := F) m).duties (sendCell c o) 0 = {0} := by
  dsimp only [ringRd]; rw [if_pos ⟨rfl, rfl⟩, role_send]; exact if_neg ho
theorem duties_recv {o : Fin 8} (ho : o ≠ 0) : (ringRd (F := F) m).duties (recvCell c o) 0 = {0} := by
  dsimp only [ringRd]; rw [if_pos ⟨rfl, rfl⟩, role_recv]; exact if_neg ho
theorem duties_send0 : (ringRd (F := F) m).duties (sendCell c 0) 0 = ∅ := by
  dsimp only [ringRd]; rw [if_pos ⟨rfl, rfl⟩, role_send]; exact if_pos rfl
theorem duties_recv0 : (ringRd (F := F) m).duties (recvCell c 0) 0 = ∅ := by
  dsimp only [ringRd]; rw [if_pos ⟨rfl, rfl⟩, role_recv]; exact if_pos rfl
theorem duties_later (g : GSem nD τ sig) : ∀ r, 1 ≤ r → (ringRd (F := F) m).duties g r = ∅ :=
  fun r hr => by dsimp only [ringRd]; rw [if_neg fun h => by omega]
theorem duties_send0_all : ∀ r, 0 ≤ r → (ringRd (F := F) m).duties (sendCell c 0) r = ∅ :=
  fun r _ => if h : r = 0 then h ▸ duties_send0 m c else duties_later m _ r (Nat.pos_of_ne_zero h)
theorem duties_recv0_all : ∀ r, 0 ≤ r → (ringRd (F := F) m).duties (recvCell c 0) r = ∅ :=
  fun r _ => if h : r = 0 then h ▸ duties_recv0 m c else duties_later m _ r (Nat.pos_of_ne_zero h)

theorem amount_bar (d : Fin 8) : (ringRd (F := F) m).amount (barCell c) 0 d = 1 := by
  dsimp only [ringRd]; rw [role_bar]
theorem amount_send (o d : Fin 8) : (ringRd (F := F) m).amount (sendCell c o) 0 d = N := by
  dsimp only [ringRd]; rw [role_send]
theorem amount_recv (o d : Fin 8) : (ringRd (F := F) m).amount (recvCell c o) 0 d = N := by
  dsimp only [ringRd]; rw [role_recv]

theorem expect_bar : (ringRd (F := F) m).expect (barCell c) 0 = 7 := by
  unfold Schedule.expect Schedule.amountOf
  rw [duties_bar, Finset.sum_congr rfl fun d _ => amount_bar m c d, Finset.sum_const]; rfl
theorem expect_send {o : Fin 8} (ho : o ≠ 0) : (ringRd (F := F) m).expect (sendCell c o) 0 = N := by
  unfold Schedule.expect Schedule.amountOf; rw [duties_send m c ho, Finset.sum_singleton, amount_send]
theorem expect_recv {o : Fin 8} (ho : o ≠ 0) : (ringRd (F := F) m).expect (recvCell c o) 0 = N := by
  unfold Schedule.expect Schedule.amountOf; rw [duties_recv m c ho, Finset.sum_singleton, amount_recv]

theorem payload_bar (d : Fin 8) : (ringRd (F := F) m).payload (barCell c) 0 d = barPay c d := by
  dsimp only [ringRd]; rw [role_bar]
theorem payload_send (o d : Fin 8) : (ringRd (F := F) m).payload (sendCell c o) 0 d = sendPay m c o := by
  dsimp only [ringRd]; rw [role_send]
theorem payload_recv (o d : Fin 8) : (ringRd (F := F) m).payload (recvCell c o) 0 d = recvPay m c o := by
  dsimp only [ringRd]; rw [role_recv]

/-- All seven slots at once. -/
theorem rest_bar : bigSep ((ringRd (F := F) m).duties (barCell c) 0 \ ∅) (fun d => (ringRd (F := F) m).payload (barCell c) 0 d)
    = bigSep (Finset.univ.erase 0) fun o => barPay c o := by
  rw [Finset.sdiff_empty, duties_bar]; exact bigSep_congr fun d _ => payload_bar m c d
theorem rest_send {o : Fin 8} (ho : o ≠ 0) :
    bigSep ((ringRd (F := F) m).duties (sendCell c o) 0 \ ∅) (fun d => (ringRd (F := F) m).payload (sendCell c o) 0 d) = sendPay m c o := by
  rw [Finset.sdiff_empty, duties_send m c ho, bigSep_singleton, payload_send]
theorem rest_recv {o : Fin 8} (ho : o ≠ 0) :
    bigSep ((ringRd (F := F) m).duties (recvCell c o) 0 \ ∅) (fun d => (ringRd (F := F) m).payload (recvCell c o) 0 d) = recvPay m c o := by
  rw [Finset.sdiff_empty, duties_recv m c ho, bigSep_singleton, payload_recv]

end Sched

/-! ## What each device owes, and the levels -/

/-- The offsets to the other devices, in the order the kernel takes them. -/
def offs : List (Fin 8) := [1, 2, 3, 4, 5, 6, 7]

/-- The arrivals device `c` owes for the offsets `l`, -/
def owR (c : Dev nD) (l : List (Fin 8)) : CellTallies nD τ sig Unit := (l.map fun o => tallyAt (recvCell (fwd c o) o) () N).sum
/-- and the barrier units. -/
def owB (c : Dev nD) (l : List (Fin 8)) : CellTallies nD τ sig Unit := (l.map fun o => tallyAt (barCell (fwd c o)) () 1).sum

theorem owR_cons (c : Dev nD) (o : Fin 8) (l : List (Fin 8)) : owR c (o :: l) = owR c l + tallyAt (recvCell (fwd c o) o) () N := by
  unfold owR; rw [List.map_cons, List.sum_cons, add_comm]
theorem owB_cons (c : Dev nD) (o : Fin 8) (l : List (Fin 8)) : owB c (o :: l) = owB c l + tallyAt (barCell (fwd c o)) () 1 := by
  unfold owB; rw [List.map_cons, List.sum_cons, add_comm]
theorem owR_nil (c : Dev nD) : owR c [] = 0 := rfl
theorem owB_nil (c : Dev nD) : owB c [] = 0 := rfl

/-- At the start: everything. -/
def O₀ (c : Dev nD) : CellTallies nD τ sig Unit := owR c offs + owB c offs

theorem owed_peel (c : Dev nD) (o : Fin 8) (l : List (Fin 8)) :
    owR c offs + owB c (o :: l) = (owR c offs + owB c l) + tallyAt (barCell (fwd c o)) () 1 := by rw [owB_cons, add_assoc]

theorem tally_pos {g' : GSem nD τ sig} {n : ℕ} {g : GSem nD τ sig} {u : Unit} (h : 0 < tallyAt g' () n g u) : g = g' := by
  rw [tallyAt_apply] at h
  by_contra hn
  rw [if_neg (fun h' => hn h'.1)] at h
  exact Nat.lt_irrefl 0 h

theorem sum_pos {f : Fin 8 → CellTallies nD τ sig Unit} (l : List (Fin 8)) {g : GSem nD τ sig} {u : Unit}
    (h : 0 < (l.map f).sum g u) : ∃ o ∈ l, 0 < f o g u := by
  induction l with
  | nil => exact absurd h (Nat.lt_irrefl 0)
  | cons o l ih =>
    rw [List.map_cons, List.sum_cons, Pi.add_apply, Finsupp.add_apply] at h
    by_cases h0 : 0 < f o g u
    · exact ⟨o, List.mem_cons_self .., h0⟩
    · obtain ⟨o', ho', h'⟩ := ih (by omega)
      exact ⟨o', List.mem_cons_of_mem _ ho', h'⟩

theorem owR_pos {c : Dev nD} {l : List (Fin 8)} {g : GSem nD τ sig} {u : Unit} (h : 0 < owR c l g u) : ∃ o ∈ l, g = recvCell (fwd c o) o :=
  have ⟨o, ho, h'⟩ := sum_pos l h
  ⟨o, ho, tally_pos h'⟩
theorem owB_pos {c : Dev nD} {l : List (Fin 8)} {g : GSem nD τ sig} {u : Unit} (h : 0 < owB c l g u) : ∃ o ∈ l, g = barCell (fwd c o) :=
  have ⟨o, ho, h'⟩ := sum_pos l h
  ⟨o, ho, tally_pos h'⟩

def L (g : GSem nD τ sig) : Finset Unit := if g.1.2 = .tc then {()} else ∅
/-- Barrier units before arrivals; everything else first. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (o : Fin 8) (u : Unit) : lv (recvCell c o) u = 2 := by unfold lv; rw [role_recv]

theorem O₀_pos {c : Dev nD} {g : GSem nD τ sig} {u : Unit} (h : 0 < O₀ c g u) :
    (∃ o ∈ offs, g = recvCell (fwd c o) o) ∨ ∃ o ∈ offs, g = barCell (fwd c o) := by
  unfold O₀ at h
  rw [Pi.add_apply, Finsupp.add_apply] at h
  by_cases h0 : 0 < owR c offs g u
  · exact .inl (owR_pos h0)
  · exact .inr (owB_pos (c := c) (l := offs) (g := g) (u := u) (by omega))

omit [FloatOps F] in
/-- A wait below the arrivals, with arrivals owed: the device's own copies in, and the barrier. -/
theorem mayWait_low (c : Dev nD) (sm : SemLoc sig) (l : List (Fin 8)) (h : lv ((c : Thread nD τ), sm) () ≤ 1) :
    (levAts L lv : sProp 𝕄) ⊢ MayWait (c : Thread nD τ) sm () (owR c l) :=
  MayOwe.of_cut (L := L) (lev := lv) 1 (fun p hp => by rw [Finset.mem_singleton.mp hp, L_tc]; exact Finset.mem_singleton_self _)
    (fun g u hg => by obtain ⟨o, -, rfl⟩ := owR_pos hg; rw [L_tc]; exact Finset.mem_singleton_self _)
    (fun p hp => by rw [Finset.mem_singleton.mp hp]; exact h)
    (fun g u hg => by obtain ⟨o, -, rfl⟩ := owR_pos hg; rw [lv_recv]; decide)

end Cert.Scan

end
-- ==== Proof.Local.lean ====
/-
# What one effect of the kernel does: loads, stores, copies within a device

Every piece of memory is owned as a chunk or a slot that reads known values (`owns`). The rules here say what a load, a
store, the issue of a copy within the device and the wait for it make of such holdings; each is stated once, for any
memref.
-/
module

public import proofs.«01_k».proof.Proof.Schedule

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owesE (c : Dev nD) (O : CellTallies nD τ sig Unit) : sProp 𝕄 := iprop(∃ W, owes (c : Thread nD τ) O W)

/-- Device `c` holds the memref, its contents not known. -/
def anyAt (c : Dev nD) {sp : Space} {s : Shape} {e : EltTy} (M : Memref sig .tc sp s e) : sProp 𝕄 :=
  iprop(∃ v, owns (c : Thread nD τ) M fullShare v)

section
variable (c : Dev nD) {α : Type} {s s' : Shape} {e : EltTy}

theorem any_intro {sp : Space} {M : Memref sig .tc sp s e} {X : s.Idx → Elt F e} :
    (owns (c : Thread nD τ) M fullShare X : sProp 𝕄) ⊢ anyAt c M := by
  unfold anyAt; iintro H; iexists X; iexact H

/-! ## Loads and stores of a rectangle -/

theorem load_rect {M : Memref sig .tc .vmem s e} {r : Rect s} (hr : ∀ a, r.stride a = 1) {hl : M.view.LoadsAt r.toLoadRect}
    {k : (r.shape.Idx → Elt F e) → Prog (TpuEff nD τ sig (Elt F) Λ₀ .tc) α} {Q : α → sProp 𝕄} {q : PosShare TreeShare} {X : r.shape.Idx → Elt F e} :
    (owns (c : Thread nD τ) (M.slice r hr) q X : sProp 𝕄)
      ⊢ iprop((owns (c : Thread nD τ) (M.slice r hr) q X -∗ run c (k X) Q) -∗ run c (.op (.load M r.toLoadRect hl) k) Q) := by
  unfold owns
  iintro ⟨%f, %hf, H⟩ Hk
  iapply (wp_load_rect 𝒱₀ (c : Thread nD τ) none Set.univ (m := M) (r := r) (f := f) (q := q) (Finset.Subset.refl _)) $$ H
  iintro H
  rw [show (M.access r).read (Elt F) f = X from hf]
  iapply Hk
  iexists f
  isplitr; · ipureintro; exact hf
  iexact H

theorem store_rect {M : Memref sig .tc .vmem s e} {r : Rect s} (hr : ∀ a, r.stride a = 1) {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (anyAt c (M.slice r hr) : sProp 𝕄)
      ⊢ iprop((owns (c : Thread nD τ) (M.slice r hr) fullShare w -∗ run c (k ⟨⟩) Q)
          -∗ run c (.op (.store M r w Finset.univ hx hm) k) Q) := by
  unfold anyAt owns
  iintro ⟨%v, %f, %hf, H⟩ Hk
  iapply (wp_store 𝒱₀ (c : Thread nD τ) none Set.univ (m := M) (r := r) (Mk := Finset.univ) (f := f) (S := (M.access r).set)
    (Finset.Subset.refl _)) $$ H
  iintro H
  iapply Hk
  iexists ((M.access r).write (Elt F) f w Finset.univ)
  isplitr; · ipureintro; exact View.read_write_univ _ _
  iexact H

/-! ## A copy within the device -/

/-- A copy from `src` to `dst` is under way: its arrival gives `dst` holding what `src` holds, and `src` back. -/
def Copying {sp sp' : Space} (src : Memref sig .tc sp s e) (dst : Memref sig .tc sp' s e) (sm : DmaSem sig) (X : s.Idx → Elt F e) :
    sProp 𝕄 :=
  iprop(∃ fs fd, ⌜src.view.read (Elt F) fs = X⌝ ∗ Transfers.Flight EC (c : Thread nD τ) (.dma sm) () dst.view.dmaCredit
    iprop((dst.view.loc (c : Thread nD τ) ↦[dst.view.set]{fullShare} (dst.view.write (Elt F) fd (src.view.read (Elt F) fs) Finset.univ))
      ∗ (src.view.loc (c : Thread nD τ) ↦[src.view.set]{fullShare} fs)))

theorem copy_start {sp sp' : Space} {src : Memref sig .tc sp s e} {dst : Memref sig .tc sp' s e} {sm : DmaSem sig}
    {hsrc : src.view.WordExact} {hdst : dst.view.WordExact}
    {hsem : DmaTarget.Typed (nD := nD) (τ := τ) (p := .tc) sp (.dma sm) (.here dst)}
    {k : PUnit → Prog (TpuEff nD τ sig (Elt F) Λ₀ .tc) α} {Q : α → sProp 𝕄} {X : s.Idx → Elt F e} (hpos : 0 < dst.view.dmaCredit) :
    iprop(owns (c : Thread nD τ) src fullShare X ∗ anyAt c dst ∗ semVal ((c : Thread nD τ), .dma sm) 0)
      ⊢ iprop((Copying c src dst sm X -∗ run c (k ⟨⟩) Q)
          -∗ run c (.op (.enqueueDma src (.here dst) (.dma sm) hsrc hdst hsem) k) Q) := by
  unfold anyAt owns Copying
  iintro ⟨⟨%fs, %hfs, Hs⟩, ⟨%v, %fd, %hfd, Hd⟩, Hv⟩ Hk
  iapply (Transfers.wp_dmaLocal EC 𝒱₀ (c : Thread nD τ) none (q := fullShare) (fs := fs) (fd := fd) (Sd := dst.view.set) ()
    dst.view.dmaCredit rfl hpos (Finset.Subset.refl _)) $$ [Hs Hd Hv]
  · isplitl [Hs]; · iexact Hs
    isplitl [Hd] <;> iassumption
  iintro Hf
  iapply Hk
  iexists fs; iexists fd
  isplitr; · ipureintro; exact hfs
  iexact Hf

theorem copy_wait {sp sp' : Space} {src : Memref sig .tc sp s e} {dst : Memref sig .tc sp' s e} {sm : DmaSem sig}
    {hsrc : src.view.WordExact} {hdst : dst.view.WordExact}
    {k : PUnit → Prog (TpuEff nD τ sig (Elt F) Λ₀ .tc) α} {Q : α → sProp 𝕄} {X : s.Idx → Elt F e} {O : CellTallies nD τ sig Unit} :
    iprop(Copying c src dst sm X ∗ owesE c O ∗ MayWait (c : Thread nD τ) (.dma sm) () O)
      ⊢ iprop(((owns (c : Thread nD τ) src fullShare X ∗ owns (c : Thread nD τ) dst fullShare X
              ∗ semVal ((c : Thread nD τ), .dma sm) 0 ∗ owesE c O) -∗ run c (k ⟨⟩) Q)
          -∗ run c (.op (.waitDma2 sm src dst hsrc hdst) k) Q) := by
  unfold owesE Copying
  iintro ⟨⟨%fs, %fd, %hfs, Hf⟩, ⟨%W, HO⟩, Hmw⟩ Hk
  iapply (Transfers.wp_waitLocalO EC 𝒱₀ (c : Thread nD τ) none (O := O) (W := W) () rfl) $$ [Hf HO Hmw]
  · isplitl [Hf]; · iexact Hf
    isplitl [HO] <;> iassumption
  iintro ⟨⟨Hd, Hs⟩, Hv, HO⟩
  iapply Hk
  isplitl [Hs]
  · unfold owns; iexists fs
    isplitr; · ipureintro; exact hfs
    iexact Hs
  isplitl [Hd]
  · unfold owns; iexists (dst.view.write (Elt F) fd (src.view.read (Elt F) fs) Finset.univ)
    isplitr; · ipureintro; rw [View.read_write_univ]; exact hfs
    iexact Hd
  isplitl [Hv]; · iexact Hv
  iexists (insert (SemLoc.dma sm, ()) W); iexact HO

end

end Cert.Scan

end
-- ==== Proof.Remote.lean ====
/-
# What one effect of the kernel does: the barrier and the copies between devices

Each rule takes the invariants of every device's cells from `records`, which anyone may read any number of times.
-/
module

public import proofs.«01_k».proof.Proof.Local

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- A device's cells: the barrier, eight departures, eight arrivals. (Departure and arrival 0 are never used.) -/
abbrev CellIx : Type := Option (Bool × Fin 8)
def csem : CellIx → SemLoc sig
  | none => .reg barS
  | some (false, o) => .dma (sendS o)
  | some (true, o) => .dma (recvS o)
abbrev kcell (ck : Dev nD × CellIx) : GSem nD τ sig := ((ck.1 : Thread nD τ), csem ck.2)

/-- Every cell's invariant, and that every cell is at its first round. -/
def records (K : Dev nD × CellIx → ℕ) : sProp 𝕄 :=
  iprop((bigSep Finset.univ fun ck : Dev nD × CellIx => cellInv ER (ringRd m) (K ck) (kcell ck))
    ∗ bigSep Finset.univ fun ck : Dev nD × CellIx => reached ER (kcell ck) 0)

instance records_persistent (K : Dev nD × CellIx → ℕ) : BI.Persistent (records m K) := by unfold records; infer_instance

theorem inv_at (K : Dev nD × CellIx → ℕ) (ck : Dev nD × CellIx) :
    (records m K : sProp 𝕄) ⊢ cellInv ER (ringRd m) (K ck) (kcell ck) := by
  unfold records
  iintro ⟨H, -⟩
  iapply (show (bigSep Finset.univ fun ck : Dev nD × CellIx => (cellInv ER (ringRd m) (K ck) (kcell ck) : sProp 𝕄))
    ⊢ cellInv ER (ringRd m) (K ck) (kcell ck) from bigSep_elim (Finset.mem_univ ck))
  iexact H
theorem reached_at (K : Dev nD × CellIx → ℕ) (ck : Dev nD × CellIx) : (records m K : sProp 𝕄) ⊢ reached ER (kcell ck) 0 := by
  unfold records
  iintro ⟨-, H⟩
  iapply (show (bigSep Finset.univ fun ck : Dev nD × CellIx => (reached ER (kcell ck) 0 : sProp 𝕄))
    ⊢ reached ER (kcell ck) 0 from bigSep_elim (Finset.mem_univ ck))
  iexact H

/-! ## A slot as loads see it and as copies see it -/

theorem slot_set (o : Fin 8) : (tS o).view.set = (tC o).view.set := View.set_reshape _ _

/-- What a copy sees determines what a load sees. -/
theorem slot_read (o o' : Fin 8) (f g : (tM : Memref sig .tc .vmem S8x1x1024 .f32).view.ty.Contents (Elt F))
    (h : (tS o).view.read (Elt F) f = (tS o').view.read (Elt F) g) : (tC o).view.read (Elt F) f = (tC o').view.read (Elt F) g := by
  funext j
  obtain ⟨i, rfl⟩ := (Shape.reshapeEquiv (squeezes_S1x1x1024_S1x1024).numel_eq).surjective j
  exact congrFun h i

section
variable (K : Dev nD × CellIx → ℕ) (c : Dev nD) {α : Type}

/-! ## The barrier -/

/-- Telling the device `o` places on that it may write slot `opp o` here. -/
theorem signal {n : Dev nD} {o : Fin 8} (hn : n = fwd c o) (ho : o ≠ 0) {j : ℕ} (hj : j = 1) (O : CellTallies nD τ sig Unit)
    {k : PUnit → Prog (TpuEff nD τ sig (Elt F) Λ₀ .tc) α} {Q : α → sProp 𝕄} :
    iprop(records m K ∗ owesE c (O + tallyAt (barCell (fwd c o)) () 1) ∗ dutyTok ER (barCell (fwd c o)) 0 o ∗ anyAt c (tC (opp o)))
      ⊢ iprop((owesE c O -∗ run c (k ⟨⟩) Q) -∗ run c (.op (.semSignal (n : Thread nD τ) barS j) k) Q) := by
  subst hn hj
  unfold owesE
  iintro ⟨#HR, ⟨%W, HO⟩, Ht, Hs⟩ Hk
  iapply (Rounds.wp_signal 𝒱₀ ER (ringRd m) (c : Thread nD τ) none (dst := (fwd c o : Thread nD τ)) (κ := K (fwd c o, none))
      (d := o) (by rw [duties_bar]; exact Finset.mem_erase.mpr ⟨ho, Finset.mem_univ _⟩) (amount_bar m (fwd c o) o) () O rfl)
    $$ [HO Ht Hs]
  · isplitr; · iapply (inv_at m K (fwd c o, none)) $$ HR
    isplitl [HO]; · iexact HO
    isplitl [Ht]; · iexact Ht
    isplitl [Hs]
    · rw [payload_bar]; unfold barPay; rw [bwd_fwd]; unfold anyAt; iexact Hs
    · iapply (reached_at m K (fwd c o, none)) $$ HR
  iintro HO
  iapply Hk
  iexists W; iexact HO

/-- Waiting for all seven others; the barrier is then done with. -/
theorem barrier {j : ℕ} (hj : j = 7)
    {k : PUnit → Prog (TpuEff nD τ sig (Elt F) Λ₀ .tc) α} {Q : α → sProp 𝕄} :
    iprop(records m K ∗ levAts L lv ∗ cred (tallyAt (barCell c) () 7) ∗ owesE c (owR c offs) ∗ atPos ER (barCell c) 0 ∅ 0)
      ⊢ iprop(((owesE c (owR c offs) ∗ semVal (barCell c) 0 ∗ bigSep (Finset.univ.erase 0) fun o => barPay c o) -∗ run c (k ⟨⟩) Q)
          -∗ run c (.op (.semWait barS j) k) Q) := by
  subst hj
  unfold owesE
  iintro ⟨#HR, #Hl, Hc, ⟨%W, HO⟩, Hat⟩ Hk
  iapply (Rounds.wp_wait_rest_token 𝒱₀ ER (ringRd m) (c : Thread nD τ) none (κ := K (c, none))
      (wpE_semWait_eq 𝒱₀ (c : Thread nD τ) none Set.univ) (Set.mem_univ _) () (O := owR c offs) (W := W) (R := 0) (m := 0) (T := ∅)
      (by rw [expect_bar])) $$ [Hc HO Hat]
  · isplitr; · iapply (inv_at m K (c, none)) $$ HR
    isplitl [Hc]; · iexact Hc
    isplitl [HO]; · iexact HO
    isplitr; · iapply (mayWait_low c (.reg barS) offs (by rw [lv_bar])); iexact Hl
    iexact Hat
  iintro ⟨HO, Hat, -, Hpay⟩
  ihave Hp := (Entails.of_eq (rest_bar m c)) $$ Hpay
  imod (Rounds.cell_close ER (ringRd m) (Set.mem_univ (K (c, none))) (fun h => h) (R := 0 + 1) (duties_later m (barCell c))) $$ [Hat] with Hz
  · isplitr; · iapply (inv_at m K (c, none)) $$ HR
    iexact Hat
  iapply Hk
  isplitl [HO]; · iexists _; iexact HO
  isplitl [Hz] <;> iassumption

/-! ## The copies between devices -/

/-- The slot a copy lands in, as the barrier handed it over. -/
theorem barPay_opp (o : Fin 8) : (barPay c (opp o) : sProp 𝕄) = anyAt (fwd c o) (tC o) := by
  unfold barPay anyAt; rw [bwd_opp, opp_opp]

/-- Sending this device's row of totals `o` places on. -/
theorem send {n : Dev nD} {o : Fin 8} (hn : n = fwd c o) (ho : o ≠ 0) (O : CellTallies nD τ sig Unit)
    {hsc : (tS o : Memref sig (Dev.tc n : Thread nD τ).2.kind .vmem S1x1024 .f32).view.ref.isScScratch = false}
    {hsrc : (tS 0).view.WordExact} {hdst : (tS o).view.WordExact}
    {hsem : DmaTarget.Typed (p := .tc) .vmem (.dma (recvS o)) (.remote (Dev.tc n : Thread nD τ) (tS o) (.dma (sendS o)) hsc)}
    {k : PUnit → Prog (TpuEff nD τ sig (Elt F) Λ₀ .tc) α} {Q : α → sProp 𝕄} :
    iprop(records m K ∗ owns (c : Thread nD τ) (tC 0) (part o) (totAt m c) ∗ barPay c (opp o)
        ∗ owesE c (O + tallyAt (recvCell (fwd c o) o) () N)
        ∗ dutyTok ER (sendCell c o) 0 0 ∗ dutyTok ER (recvCell (fwd c o) o) 0 0)
      ⊢ iprop(((cred (tallyAt (sendCell c o) () N) ∗ owesE c O) -∗ run c (k ⟨⟩) Q)
          -∗ run c (.op (.enqueueDma (tS 0) (.remote (Dev.tc n : Thread nD τ) (tS o) (.dma (sendS o)) hsc) (.dma (recvS o)) hsrc hdst hsem) k) Q) := by
  subst hn
  rw [barPay_opp]
  unfold owesE anyAt owns
  iintro ⟨#HR, ⟨%fs, %hfs, Hs⟩, ⟨%v, %fd, -, Hd⟩, ⟨%W, HO⟩, HtS, HtR⟩ Hk
  iapply (Rounds.wp_send_pointsTo 𝒱₀ ER (ringRd m) (c : Thread nD τ) none (κ₁ := K (c, some (false, o))) (κ₂ := K (fwd c o, some (true, o)))
    (c' := (fwd c o : Thread nD τ)) (src := tS 0) (dst := tS o) (sS := .dma (sendS o)) (sem := .dma (recvS o)) (q := part o)
    (r₁ := 0) (r₂ := 0) (d₁ := 0) (d₂ := 0) (fs := fs) (fd := fd)
    (by rw [duties_send m c ho]; exact Finset.mem_singleton_self _) (by rw [duties_recv m _ ho]; exact Finset.mem_singleton_self _)
    () () N rfl (amount_send m c o 0) (amount_recv m (fwd c o) o 0) O rfl (W := W)
    (by
      rw [payload_send]; unfold sendPay owns
      iintro H
      iexists fs
      isplitr; · ipureintro; exact hfs
      rw [← slot_set 0]; iexact H)
    (by
      rw [payload_recv]; unfold recvPay owns
      rw [bwd_fwd]
      iintro H
      iexists ((tS o).view.write (Elt F) fd ((tS 0).view.read (Elt F) fs) Finset.univ)
      isplitr
      · ipureintro
        rw [← hfs]
        exact slot_read o 0 _ _ (View.read_write_univ _ _)
      rw [← slot_set o]; iexact H)) $$ [Hs Hd HO HtS HtR]
  · isplitr; · iapply (inv_at m K (c, some (false, o))) $$ HR
    isplitr; · iapply (inv_at m K (fwd c o, some (true, o))) $$ HR
    isplitl [Hs]; · rw [slot_set 0]; iexact Hs
    isplitl [Hd]; · rw [slot_set o]; iexact Hd
    isplitl [HO]; · iexact HO
    isplitl [HtS]; · iexact HtS
    isplitr; · iapply (reached_at m K (c, some (false, o))) $$ HR
    isplitl [HtR]; · iexact HtR
    iapply (reached_at m K (fwd c o, some (true, o))) $$ HR
  iintro ⟨Hc, HO⟩
  iapply Hk
  isplitl [Hc]; · iexact Hc
  iexists W; iexact HO

/-- The copy `o` places on has left: the share of slot 0 is back, the departure cell done with. -/
theorem departed {o : Fin 8} (ho : o ≠ 0) {sh : Shape} {src : Memref sig .tc .vmem sh .f32} {dst : Memref sig .tc .vmem S1x1024 .f32}
    {hsrc : src.view.WordExact} {hdst : dst.view.WordExact} (hN : dst.view.dmaCredit = N)
    {k : PUnit → Prog (TpuEff nD τ sig (Elt F) Λ₀ .tc) α} {Q : α → sProp 𝕄} :
    iprop(records m K ∗ cred (tallyAt (sendCell c o) () N) ∗ owesE c 0 ∗ atPos ER (sendCell c o) 0 ∅ 0)
      ⊢ iprop(((owesE c 0 ∗ semVal (sendCell c o) 0 ∗ owns (c : Thread nD τ) (tC 0) (part o) (totAt m c)) -∗ run c (k ⟨⟩) Q)
          -∗ run c (.op (.waitDma2 (sendS o) src dst hsrc hdst) k) Q) := by
  unfold owesE
  iintro ⟨#HR, Hc, ⟨%W, HO⟩, Hat⟩ Hk
  iapply (Rounds.wp_wait_rest_token 𝒱₀ ER (ringRd m) (c : Thread nD τ) none (κ := K (c, some (false, o))) (k' := N)
      (by rw [← hN]; exact wpE_waitDma2_eq 𝒱₀ (c : Thread nD τ) none Set.univ) (Set.mem_univ _) () (O := 0) (W := W) (R := 0) (m := 0) (T := ∅)
      (by rw [Nat.zero_add, expect_send m c ho])) $$ [Hc HO Hat]
  · isplitr; · iapply (inv_at m K (c, some (false, o))) $$ HR
    isplitl [Hc]; · iexact Hc
    isplitl [HO]; · iexact HO
    isplitr; · rw [MayWait_zero]; iempintro
    iexact Hat
  iintro ⟨HO, Hat, -, Hpay⟩
  ihave Hp := (Entails.of_eq (rest_send m c ho)) $$ Hpay
  imod (Rounds.cell_close ER (ringRd m) (Set.mem_univ (K (c, some (false, o)))) (fun h => h) (R := 0 + 1) (duties_later m (sendCell c o))) $$ [Hat] with Hz
  · isplitr; · iapply (inv_at m K (c, some (false, o))) $$ HR
    iexact Hat
  iapply Hk
  isplitl [HO]; · iexists _; iexact HO
  isplitl [Hz]; · iexact Hz
  unfold sendPay; iexact Hp

/-- The row from `o` places back has arrived in slot `o`; the arrival cell is done with. -/
theorem arrived {o : Fin 8} (ho : o ≠ 0) {sh : Shape} {src : Memref sig .tc .vmem sh .f32} {dst : Memref sig .tc .vmem S1x1024 .f32}
    {hsrc : src.view.WordExact} {hdst : dst.view.WordExact} (hN : dst.view.dmaCredit = N)
    {k : PUnit → Prog (TpuEff nD τ sig (Elt F) Λ₀ .tc) α} {Q : α → sProp 𝕄} :
    iprop(records m K ∗ cred (tallyAt (recvCell c o) () N) ∗ owesE c 0 ∗ atPos ER (recvCell c o) 0 ∅ 0)
      ⊢ iprop(((owesE c 0 ∗ semVal (recvCell c o) 0 ∗ owns (c : Thread nD τ) (tC o) fullShare (totAt m (bwd c o))) -∗ run c (k ⟨⟩) Q)
          -∗ run c (.op (.waitDma2 (recvS o) src dst hsrc hdst) k) Q) := by
  unfold owesE
  iintro ⟨#HR, Hc, ⟨%W, HO⟩, Hat⟩ Hk
  iapply (Rounds.wp_wait_rest_token 𝒱₀ ER (ringRd m) (c : Thread nD τ) none (κ := K (c, some (true, o))) (k' := N)
      (by rw [← hN]; exact wpE_waitDma2_eq 𝒱₀ (c : Thread nD τ) none Set.univ) (Set.mem_univ _) () (O := 0) (W := W) (R := 0) (m := 0) (T := ∅)
      (by rw [Nat.zero_add, expect_recv m c ho])) $$ [Hc HO Hat]
  · isplitr; · iapply (inv_at m K (c, some (true, o))) $$ HR
    isplitl [Hc]; · iexact Hc
    isplitl [HO]; · iexact HO
    isplitr; · rw [MayWait_zero]; iempintro
    iexact Hat
  iintro ⟨HO, Hat, -, Hpay⟩
  ihave Hp := (Entails.of_eq (rest_recv m c ho)) $$ Hpay
  imod (Rounds.cell_close ER (ringRd m) (Set.mem_univ (K (c, some (true, o)))) (fun h => h) (R := 0 + 1) (duties_later m (recvCell c o))) $$ [Hat] with Hz
  · isplitr; · iapply (inv_at m K (c, some (true, o))) $$ HR
    iexact Hat
  iapply Hk
  isplitl [HO]; · iexists _; iexact HO
  isplitl [Hz]; · iexact Hz
  unfold recvPay; iexact Hp

/-- Departure and arrival 0, never used, are done with at once. -/
theorem unused : iprop(records m K ∗ atPos ER (sendCell c 0) 0 ∅ 0 ∗ atPos ER (recvCell c 0) 0 ∅ 0)
    ⊢ (|={Set.univ}=> iprop(semVal (sendCell c 0) 0 ∗ semVal (recvCell c 0) 0) : sProp 𝕄) := by
  iintro ⟨#HR, HS, HV⟩
  imod (Rounds.cell_close ER (ringRd m) (Set.mem_univ (K (c, some (false, 0)))) (fun h => h) (R := 0) (duties_send0_all m c)) $$ [HS] with HzS
  · isplitr; · iapply (inv_at m K (c, some (false, 0))) $$ HR
    iexact HS
  imod (Rounds.cell_close ER (ringRd m) (Set.mem_univ (K (c, some (true, 0)))) (fun h => h) (R := 0) (duties_recv0_all m c)) $$ [HV] with HzV
  · isplitr; · iapply (inv_at m K (c, some (true, 0))) $$ HR
    iexact HV
  imodintro
  isplitl [HzS] <;> iassumption

end

end Cert.Scan

end
-- ==== Proof.PartsIn.lean ====
/-
# The kernel's parts: copies in, the barrier's signals, the running sums
-/
module

public import proofs.«01_k».proof.Proof.Remote

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A chunk on its way in -/

/-- Chunk `k` of the argument, somewhere to put it, and the semaphore to announce it; -/
def inReady (c : Dev nD) (k : Fin 8) : sProp 𝕄 :=
  iprop(owns (c : Thread nD τ) (xC k) fullShare (chunksAt m c k) ∗ anyAt c (vC k) ∗ semVal ((c : Thread nD τ), .dma (inS k)) 0)
/-- the same while the copy is under way; -/
def inFlight (c : Dev nD) (k : Fin 8) : sProp 𝕄 := Copying c (xC k) (vC k) (inS k) (chunksAt m c k)
/-- the copy, arrived; -/
def landed (c : Dev nD) (k : Fin 8) : sProp 𝕄 := owns (c : Thread nD τ) (vC k) fullShare (chunksAt m c k)
/-- and what is left of the rest. -/
def inDone (c : Dev nD) (k : Fin 8) : sProp 𝕄 :=
  iprop(owns (c : Thread nD τ) (xC k) fullShare (chunksAt m c k) ∗ semVal ((c : Thread nD τ), .dma (inS k)) 0)
/-- Chunk `k` of the running sums. -/
def summed (c : Dev nD) (k : Fin 8) : sProp 𝕄 := owns (c : Thread nD τ) (wC k) fullShare (cum (chunksAt m c) k)

/-- What the signal `o` places on takes: the right to give it, and the slot it hands over. -/
def sigReady (c : Dev nD) (o : Fin 8) : sProp 𝕄 := iprop(dutyTok ER (barCell (fwd c o)) 0 o ∗ anyAt c (tC (opp o)))
/-- What is owed while the signals `l` are still to give. -/
def owing (c : Dev nD) (l : List (Fin 8)) : sProp 𝕄 := owesE c (owR c offs + owB c l)

/-- The barrier semaphore, as the kernel's parts hand it on. -/
abbrev barA : Sems sig S_ := SemArray.scalar (sig.barrier 0 rfl)

section
variable (K : Dev nD × CellIx → ℕ) (c : Dev nD) {α : Type}

theorem sig_step {n : Dev nD} (o : Fin 8) (l : List (Fin 8)) (hn : n = fwd c o) (ho : o ≠ 0) {j : ℕ} (hj : j = 1)
    {p : PUnit → Prog (TpuEff nD τ sig (Elt F) Λ₀ .tc) α} {Q : α → sProp 𝕄} :
    iprop(records m K ∗ owing c (o :: l) ∗ sigReady c o)
      ⊢ iprop((owing c l -∗ run c (p ⟨⟩) Q) -∗ run c (.op (.semSignal (n : Thread nD τ) barS j) p) Q) := by
  unfold owing sigReady
  rw [owed_peel]
  exact (signal m K c hn ho hj (owR c offs + owB c l))

theorem in_start (k : Fin 8) {hsrc : (xC k).view.WordExact} {hdst : (vC k).view.WordExact}
    {hsem : DmaTarget.Typed (nD := nD) (τ := τ) (p := .tc) .hbm (.dma (inS k)) (.here (vC k))}
    {p : PUnit → Prog (TpuEff nD τ sig (Elt F) Λ₀ .tc) α} {Q : α → sProp 𝕄} :
    (inReady m c k : sProp 𝕄) ⊢ iprop((inFlight m c k -∗ run c (p ⟨⟩) Q)
      -∗ run c (.op (.enqueueDma (xC k) (.here (vC k)) (.dma (inS k)) hsrc hdst hsem) p) Q) :=
  copy_start c (View.dmaCredit_pos _ (by decide))

theorem in_wait (k : Fin 8) {hsrc : (xC k).view.WordExact} {hdst : (vC k).view.WordExact}
    {p : PUnit → Prog (TpuEff nD τ sig (Elt F) Λ₀ .tc) α} {Q : α → sProp 𝕄} :
    iprop(inFlight m c k ∗ owesE c (owR c offs) ∗ levAts L lv)
      ⊢ iprop(((inDone m c k ∗ landed m c k ∗ owesE c (owR c offs)) -∗ run c (p ⟨⟩) Q)
          -∗ run c (.op (.waitDma2 (inS k) (xC k) (vC k) hsrc hdst) p) Q) := by
  iintro ⟨Hf, HO, #Hl⟩ Hk
  unfold inFlight
  iapply (copy_wait c) $$ [Hf HO]
  · isplitl [Hf]; · iexact Hf
    isplitl [HO]; · iexact HO
    iapply (mayWait_low c (.dma (inS k)) offs (by unfold lv; rw [role_in]; decide)); iexact Hl
  iintro ⟨Hs, Hd, Hv, HO⟩
  iapply Hk
  unfold inDone landed
  isplitl [Hs Hv]
  · isplitl [Hs] <;> iassumption
  isplitl [Hd] <;> iassumption

/-- A finished part passes its result on. -/
theorem run_ret {Q : α → sProp 𝕄} (a : α) : (Q a : sProp 𝕄) ⊢ run c (Prog.ret a) Q := by
  show _ ⊢ wp frame (wpE (defs₀ (F := F)) 𝒱₀ (c : Thread nD τ) none) Set.univ (Prog.ret a) Q
  rw [wp_ret]; iintro H; imodintro; iexact H

/-- Loading a chunk's copy. -/
theorem in_load (k : Fin 8) {hl : (vM : Memref sig .tc .vmem S2048x1024 .f32).view.LoadsAt (chunkR k).toLoadRect}
    {p : Vec F S256x1024 .f32 → Prog (TpuEff nD τ sig (Elt F) Λ₀ .tc) α} {Q : α → sProp 𝕄} :
    (landed m c k : sProp 𝕄) ⊢ iprop((landed m c k -∗ run c (p (chunksAt m c k)) Q) -∗ run c (.op (.load vM (chunkR k).toLoadRect hl) p) Q) :=
  load_rect c (fun _ => rfl)

/-- Loading a chunk of the sums before it is written: nothing depends on it. -/
theorem sum_peek (k : Fin 8) {hl : (wM : Memref sig .tc .vmem S2048x1024 .bf16).view.LoadsAt (chunkR k).toLoadRect}
    {p : Vec F S256x1024 .bf16 → Prog (TpuEff nD τ sig (Elt F) Λ₀ .tc) α} {Q : α → sProp 𝕄} :
    (anyAt c (wC k) : sProp 𝕄) ⊢ iprop((∀ v, anyAt c (wC k) -∗ run c (p v) Q) -∗ run c (.op (.load wM (chunkR k).toLoadRect hl) p) Q) := by
  unfold anyAt
  iintro ⟨%v, H⟩ Hk
  iapply (load_rect c (M := wM) (r := chunkR k) (fun _ => rfl)) $$ H
  iintro H
  iapply Hk
  iexists v; iexact H

theorem sum_store (k : Fin 8) {w : Vec F S256x1024 .bf16} {hx : ((wM : Memref sig .tc .vmem S2048x1024 .bf16).access (chunkR k)).Stores Finset.univ}
    {hm : (Finset.univ : Finset (chunkR k).shape.Idx) = Finset.univ ∨ ∀ a, (chunkR k).stride a = 1}
    {p : PUnit → Prog (TpuEff nD τ sig (Elt F) Λ₀ .tc) α} {Q : α → sProp 𝕄} :
    (anyAt c (wC k) : sProp 𝕄) ⊢ iprop((owns (c : Thread nD τ) (wC k) fullShare w -∗ run c (p ⟨⟩) Q)
      -∗ run c (.op (.store wM (chunkR k) w Finset.univ hx hm) p) Q) :=
  store_rect c (fun _ => rfl)

/-- The same of a slot of the totals. -/
theorem slot_peek (o : Fin 8) {hl : (tM : Memref sig .tc .vmem S8x1x1024 .f32).view.LoadsAt (slotR o).toLoadRect}
    {p : Vec F S1x1x1024 .f32 → Prog (TpuEff nD τ sig (Elt F) Λ₀ .tc) α} {Q : α → sProp 𝕄} :
    (anyAt c (tC o) : sProp 𝕄) ⊢ iprop((∀ v, anyAt c (tC o) -∗ run c (p v) Q) -∗ run c (.op (.load tM (slotR o).toLoadRect hl) p) Q) := by
  unfold anyAt
  iintro ⟨%v, H⟩ Hk
  iapply (load_rect c (M := tM) (r := slotR o) (fun _ => rfl)) $$ H
  iintro H
  iapply Hk
  iexists v; iexact H

theorem slot_store (o : Fin 8) {w : Vec F S1x1x1024 .f32} {hx : ((tM : Memref sig .tc .vmem S8x1x1024 .f32).access (slotR o)).Stores Finset.univ}
    {hm : (Finset.univ : Finset (slotR o).shape.Idx) = Finset.univ ∨ ∀ a, (slotR o).stride a = 1}
    {p : PUnit → Prog (TpuEff nD τ sig (Elt F) Λ₀ .tc) α} {Q : α → sProp 𝕄} :
    (anyAt c (tC o) : sProp 𝕄) ⊢ iprop((owns (c : Thread nD τ) (tC o) fullShare w -∗ run c (p ⟨⟩) Q)
      -∗ run c (.op (.store tM (slotR o) w Finset.univ hx hm) p) Q) :=
  store_rect c (fun _ => rfl)

theorem owing_offs : (owing c offs : sProp 𝕄) ⊢ owing c [1, 2, 3, 4, 5, 6, 7] := by
  unfold offs; iintro H; iexact H

theorem owing_nil : (owing c [] : sProp 𝕄) ⊢ owesE c (owR c offs) := by
  unfold owing; rw [owB_nil, add_zero]

theorem devWord_text : Scalar.remsi (Scalar.divsi c.word 1#32) 8#32 = devWord c := rfl

/-- The devices the kernel signals, in its own words. -/
theorem dev1 : (⟨k0_dev1 c, k0_dev1_lt c⟩ : Dev nD) = fwd c 1 := by revert c; decide
theorem dev2 : (⟨k0_dev2 c, k0_dev2_lt c⟩ : Dev nD) = fwd c 2 := by revert c; decide
theorem dev3 : (⟨k0_dev3 c, k0_dev3_lt c⟩ : Dev nD) = fwd c 3 := by revert c; decide
theorem dev4 : (⟨k0_dev4 c, k0_dev4_lt c⟩ : Dev nD) = fwd c 4 := by revert c; decide
theorem dev5 : (⟨k0_dev5 c, k0_dev5_lt c⟩ : Dev nD) = fwd c 5 := by revert c; decide
theorem dev6 : (⟨k0_dev6 c, k0_dev6_lt c⟩ : Dev nD) = fwd c 6 := by revert c; decide
theorem dev7 : (⟨k0_dev7 c, k0_dev7_lt c⟩ : Dev nD) = fwd c 7 := by revert c; decide

/-! ## The parts -/

variable (h0 : (xM : Memref sig .tc .hbm S2048x1024 .f32).IsWhole) (h1 : (oM : Memref sig .tc .hbm S2048x1024 .bf16).IsWhole)
  (h2 : (vM : Memref sig .tc .vmem S2048x1024 .f32).IsWhole) (h3 : (wM : Memref sig .tc .vmem S2048x1024 .bf16).IsWhole)
  (h4 : (tM : Memref sig .tc .vmem S8x1x1024 .f32).IsWhole)

theorem part1 {Q : _ → sProp 𝕄} :
    iprop(inReady m c 0 ∗ inReady m c 1 ∗ inReady m c 2 ∗ inReady m c 3 ∗ inReady m c 4)
      ⊢ iprop(((inFlight m c 0 ∗ inFlight m c 1 ∗ inFlight m c 2 ∗ inFlight m c 3 ∗ inFlight m c 4) -∗ Q ⟨c, devWord c⟩)
        -∗ run c (k0_part1 (F := F) xM h0 oM h1 vM h2 wM h3 tM h4 cc0_scratch3 cc0_scratch4 cc0_scratch5 cc0_scratch6) Q) := by
  rw [k0_part1_eq_skeleton]; unfold k0_part1_skel
  simp only [Prog.lift, Prog.bind_op, Prog.bind_ret, Prog.pure_eq_ret, wp_deviceId]
  iintro ⟨H0, H1, H2, H3, H4⟩ Hk
  iapply (in_start m c 0) $$ H0; iintro H0
  iapply (in_start m c 1) $$ H1; iintro H1
  iapply (in_start m c 2) $$ H2; iintro H2
  iapply (in_start m c 3) $$ H3; iintro H3
  iapply (in_start m c 4) $$ H4; iintro H4
  iapply (run_ret c)
  rw [devWord_text]
  iapply Hk
  isplitl [H0]; · iexact H0
  isplitl [H1]; · iexact H1
  isplitl [H2]; · iexact H2
  isplitl [H3] <;> iassumption

theorem part2 {Q : _ → sProp 𝕄} :
    iprop(records m K ∗ inReady m c 5 ∗ inReady m c 6 ∗ inReady m c 7 ∗ owing c offs ∗ sigReady c 1)
      ⊢ iprop((∀ w₁ w₂ w₃, (inFlight m c 5 ∗ inFlight m c 6 ∗ inFlight m c 7 ∗ owing c [2, 3, 4, 5, 6, 7]) -∗ Q ⟨barA, w₁, w₂, w₃⟩)
        -∗ run c (k0_part2 (F := F) xM h0 oM h1 vM h2 wM h3 tM h4 cc0_scratch3 cc0_scratch4 cc0_scratch5 cc0_scratch6 c (devWord c)) Q) := by
  rw [k0_part2_eq_skeleton]; unfold k0_part2_skel
  simp only [semSignalWord, Prog.lift, Prog.bind_op, Prog.bind_ret, Prog.pure_eq_ret]
  iintro ⟨#HR, H5, H6, H7, HO, Hs⟩ Hk
  ihave HO := (owing_offs c) $$ HO
  iapply (in_start m c 5) $$ H5; iintro H5
  iapply (in_start m c 6) $$ H6; iintro H6
  iapply (in_start m c 7) $$ H7; iintro H7
  iapply (sig_step m K c 1 [2, 3, 4, 5, 6, 7] (dev1 c) (by decide) rfl) $$ [HO Hs]
  · isplitr; · iexact HR
    isplitl [HO] <;> iassumption
  iintro HO
  iapply (run_ret c)
  iapply Hk
  isplitl [H5]; · iexact H5
  isplitl [H6]; · iexact H6
  isplitl [H7] <;> iassumption

theorem part3 (w₁ w₂ w₃ : BitVec 32) {Q : _ → sProp 𝕄} :
    iprop(records m K ∗ owing c [2, 3, 4, 5, 6, 7] ∗ sigReady c 2 ∗ sigReady c 3)
      ⊢ iprop((∀ w, owing c [4, 5, 6, 7] -∗ Q w)
        -∗ run c (k0_part3 (F := F) xM h0 oM h1 vM h2 wM h3 tM h4 cc0_scratch3 cc0_scratch4 cc0_scratch5 cc0_scratch6 c (devWord c) barA w₁ w₂ w₃) Q) := by
  rw [k0_part3_eq_skeleton]; unfold k0_part3_skel
  simp only [semSignalWord, Prog.lift, Prog.bind_op, Prog.bind_ret, Prog.pure_eq_ret]
  iintro ⟨#HR, HO, H2, H3⟩ Hk
  iapply (sig_step m K c 2 [3, 4, 5, 6, 7] (dev2 c) (by decide) rfl) $$ [HO H2]
  · isplitr; · iexact HR
    isplitl [HO] <;> iassumption
  iintro HO
  iapply (sig_step m K c 3 [4, 5, 6, 7] (dev3 c) (by decide) rfl) $$ [HO H3]
  · isplitr; · iexact HR
    isplitl [HO] <;> iassumption
  iintro HO
  iapply (run_ret c)
  iapply Hk
  iexact HO

theorem part4 (w : BitVec 32) {Q : _ → sProp 𝕄} :
    iprop(records m K ∗ owing c [4, 5, 6, 7] ∗ sigReady c 4 ∗ sigReady c 5 ∗ sigReady c 6)
      ⊢ iprop((∀ w₁ w₂ w₃, owing c [7] -∗ Q ⟨w₁, w₂, w₃⟩)
        -∗ run c (k0_part4 (F := F) xM h0 oM h1 vM h2 wM h3 tM h4 cc0_scratch3 cc0_scratch4 cc0_scratch5 cc0_scratch6 c (devWord c) barA w) Q) := by
  rw [k0_part4_eq_skeleton]; unfold k0_part4_skel
  simp only [semSignalWord, Prog.lift, Prog.bind_op, Prog.bind_ret, Prog.pure_eq_ret]
  iintro ⟨#HR, HO, H4, H5, H6⟩ Hk
  iapply (sig_step m K c 4 [5, 6, 7] (dev4 c) (by decide) rfl) $$ [HO H4]
  · isplitr; · iexact HR
    isplitl [HO] <;> iassumption
  iintro HO
  iapply (sig_step m K c 5 [6, 7] (dev5 c) (by decide) rfl) $$ [HO H5]
  · isplitr; · iexact HR
    isplitl [HO] <;> iassumption
  iintro HO
  iapply (sig_step m K c 6 [7] (dev6 c) (by decide) rfl) $$ [HO H6]
  · isplitr; · iexact HR
    isplitl [HO] <;> iassumption
  iintro HO
  iapply (run_ret c)
  iapply Hk
  iexact HO

theorem part5 (w₁ w₂ w₃ : BitVec 32) {Q : _ → sProp 𝕄} :
    iprop(records m K ∗ levAts L lv ∗ owing c [7] ∗ sigReady c 7 ∗ inFlight m c 0 ∗ inFlight m c 1 ∗ anyAt c (wC 0))
      ⊢ iprop(((owesE c (owR c offs) ∗ inDone m c 0 ∗ inDone m c 1 ∗ landed m c 0 ∗ landed m c 1 ∗ summed m c 0)
          -∗ Q ⟨tri, carry (chunksAt m c) 1⟩)
        -∗ run c (k0_part5 (F := F) xM h0 oM h1 vM h2 wM h3 tM h4 cc0_scratch3 cc0_scratch4 cc0_scratch5 cc0_scratch6 c barA w₁ w₂ w₃) Q) := by
  rw [k0_part5_eq_skeleton]; unfold k0_part5_skel
  simp only [semSignalWord, Prog.lift, Prog.bind_op, Prog.bind_ret, Prog.pure_eq_ret]
  iintro ⟨#HR, #Hl, HO, H7, Hf0, Hf1, Hw⟩ Hk
  iapply (sig_step m K c 7 [] (dev7 c) (by decide) rfl) $$ [HO H7]
  · isplitr; · iexact HR
    isplitl [HO] <;> iassumption
  iintro HO
  ihave HO := (owing_nil c) $$ HO
  iapply (in_wait m c 0) $$ [Hf0 HO]
  · isplitl [Hf0]; · iexact Hf0
    isplitl [HO] <;> iassumption
  iintro ⟨Hd0, Hx0, HO⟩
  iapply (in_load m c 0) $$ Hx0; iintro Hx0
  iapply (sum_peek c 0) $$ Hw; iintro %v Hw
  iapply (sum_store c 0) $$ Hw; iintro Hw
  iapply (in_wait m c 1) $$ [Hf1 HO]
  · isplitl [Hf1]; · iexact Hf1
    isplitl [HO] <;> iassumption
  iintro ⟨Hd1, Hx1, HO⟩
  rw [pay3_eq, pay4_eq]
  iapply (run_ret c)
  iapply Hk
  isplitl [HO]; · iexact HO
  isplitl [Hd0]; · iexact Hd0
  isplitl [Hd1]; · iexact Hd1
  isplitl [Hx0]; · iexact Hx0
  isplitl [Hx1]; · iexact Hx1
  unfold summed; iexact Hw

theorem part6 {Q : _ → sProp 𝕄} :
    iprop(levAts L lv ∗ owesE c (owR c offs) ∗ landed m c 1 ∗ inFlight m c 2 ∗ inFlight m c 3 ∗ anyAt c (wC 1) ∗ anyAt c (wC 2))
      ⊢ iprop(((owesE c (owR c offs) ∗ inDone m c 2 ∗ inDone m c 3 ∗ landed m c 1 ∗ landed m c 2 ∗ landed m c 3 ∗ summed m c 1 ∗ summed m c 2)
          -∗ Q ⟨cumF (chunksAt m c) 3, k0_pay10 tri (carry (chunksAt m c) 1) (chunksAt m c 1) (chunksAt m c 2) (chunksAt m c 3)⟩)
        -∗ run c (k0_part6 (F := F) xM h0 oM h1 vM h2 wM h3 tM h4 cc0_scratch3 cc0_scratch4 cc0_scratch5 cc0_scratch6 tri (carry (chunksAt m c) 1)) Q) := by
  rw [k0_part6_eq_skeleton]; unfold k0_part6_skel
  simp only [Prog.lift, Prog.bind_op, Prog.bind_ret, Prog.pure_eq_ret]
  iintro ⟨#Hl, HO, Hx1, Hf2, Hf3, Hw1, Hw2⟩ Hk
  iapply (in_load m c 1) $$ Hx1; iintro Hx1
  iapply (sum_peek c 1) $$ Hw1; iintro %v1 Hw1
  iapply (sum_store c 1) $$ Hw1; iintro Hw1
  iapply (in_wait m c 2) $$ [Hf2 HO]
  · isplitl [Hf2]; · iexact Hf2
    isplitl [HO] <;> iassumption
  iintro ⟨Hd2, Hx2, HO⟩
  iapply (in_load m c 2) $$ Hx2; iintro Hx2
  iapply (sum_peek c 2) $$ Hw2; iintro %v2 Hw2
  iapply (sum_store c 2) $$ Hw2; iintro Hw2
  iapply (in_wait m c 3) $$ [Hf3 HO]
  · isplitl [Hf3]; · iexact Hf3
    isplitl [HO] <;> iassumption
  iintro ⟨Hd3, Hx3, HO⟩
  iapply (in_load m c 3) $$ Hx3; iintro Hx3
  rw [pay6_eq, pay8_eq, pay9_eq]
  iapply (run_ret c)
  iapply Hk
  isplitl [HO]; · iexact HO
  isplitl [Hd2]; · iexact Hd2
  isplitl [Hd3]; · iexact Hd3
  isplitl [Hx1]; · iexact Hx1
  isplitl [Hx2]; · iexact Hx2
  isplitl [Hx3]; · iexact Hx3
  unfold summed
  isplitl [Hw1] <;> iassumption

theorem part7 {Q : _ → sProp 𝕄} :
    iprop(levAts L lv ∗ owesE c (owR c offs) ∗ inFlight m c 4 ∗ inFlight m c 5 ∗ anyAt c (wC 3) ∗ anyAt c (wC 4) ∗ anyAt c (wC 5))
      ⊢ iprop(((owesE c (owR c offs) ∗ inDone m c 4 ∗ inDone m c 5 ∗ landed m c 4 ∗ landed m c 5 ∗ summed m c 3 ∗ summed m c 4 ∗ summed m c 5)
          -∗ Q (carry (chunksAt m c) 6))
        -∗ run c (k0_part7 (F := F) xM h0 oM h1 vM h2 wM h3 tM h4 cc0_scratch3 cc0_scratch4 cc0_scratch5 cc0_scratch6 tri
            (cumF (chunksAt m c) 3) (k0_pay10 tri (carry (chunksAt m c) 1) (chunksAt m c 1) (chunksAt m c 2) (chunksAt m c 3))) Q) := by
  rw [k0_part7_eq_skeleton]; unfold k0_part7_skel
  simp only [Prog.lift, Prog.bind_op, Prog.bind_ret, Prog.pure_eq_ret]
  iintro ⟨#Hl, HO, Hf4, Hf5, Hw3, Hw4, Hw5⟩ Hk
  iapply (sum_peek c 3) $$ Hw3; iintro %v3 Hw3
  iapply (sum_store c 3) $$ Hw3; iintro Hw3
  iapply (in_wait m c 4) $$ [Hf4 HO]
  · isplitl [Hf4]; · iexact Hf4
    isplitl [HO] <;> iassumption
  iintro ⟨Hd4, Hx4, HO⟩
  iapply (in_load m c 4) $$ Hx4; iintro Hx4
  iapply (sum_peek c 4) $$ Hw4; iintro %v4 Hw4
  iapply (sum_store c 4) $$ Hw4; iintro Hw4
  iapply (in_wait m c 5) $$ [Hf5 HO]
  · isplitl [Hf5]; · iexact Hf5
    isplitl [HO] <;> iassumption
  iintro ⟨Hd5, Hx5, HO⟩
  iapply (in_load m c 5) $$ Hx5; iintro Hx5
  iapply (sum_peek c 5) $$ Hw5; iintro %v5 Hw5
  iapply (sum_store c 5) $$ Hw5; iintro Hw5
  rw [pay11_eq, pay13_eq, pay15_eq, pay16_eq]
  iapply (run_ret c)
  iapply Hk
  isplitl [HO]; · iexact HO
  isplitl [Hd4]; · iexact Hd4
  isplitl [Hd5]; · iexact Hd5
  isplitl [Hx4]; · iexact Hx4
  isplitl [Hx5]; · iexact Hx5
  unfold summed
  isplitl [Hw3]; · iexact Hw3
  isplitl [Hw4] <;> iassumption

theorem part8 {Q : _ → sProp 𝕄} :
    iprop(levAts L lv ∗ owesE c (owR c offs) ∗ inFlight m c 6 ∗ inFlight m c 7 ∗ anyAt c (wC 6) ∗ anyAt c (wC 7) ∗ anyAt c (tC 0))
      ⊢ iprop(((owesE c (owR c offs) ∗ inDone m c 6 ∗ inDone m c 7 ∗ landed m c 6 ∗ landed m c 7 ∗ summed m c 6 ∗ summed m c 7
            ∗ owns (c : Thread nD τ) (tC 0) fullShare (totAt m c))
          -∗ Q ⟨⟩)
        -∗ run c (k0_part8 (F := F) xM h0 oM h1 vM h2 wM h3 tM h4 cc0_scratch3 cc0_scratch4 cc0_scratch5 cc0_scratch6 tri (carry (chunksAt m c) 6)) Q) := by
  rw [k0_part8_eq_skeleton]; unfold k0_part8_skel
  simp only [Prog.lift, Prog.bind_op, Prog.bind_ret, Prog.pure_eq_ret]
  iintro ⟨#Hl, HO, Hf6, Hf7, Hw6, Hw7, Ht⟩ Hk
  iapply (in_wait m c 6) $$ [Hf6 HO]
  · isplitl [Hf6]; · iexact Hf6
    isplitl [HO] <;> iassumption
  iintro ⟨Hd6, Hx6, HO⟩
  iapply (in_load m c 6) $$ Hx6; iintro Hx6
  iapply (sum_peek c 6) $$ Hw6; iintro %v6 Hw6
  iapply (sum_store c 6) $$ Hw6; iintro Hw6
  iapply (in_wait m c 7) $$ [Hf7 HO]
  · isplitl [Hf7]; · iexact Hf7
    isplitl [HO] <;> iassumption
  iintro ⟨Hd7, Hx7, HO⟩
  iapply (in_load m c 7) $$ Hx7; iintro Hx7
  iapply (sum_peek c 7) $$ Hw7; iintro %v7 Hw7
  iapply (sum_store c 7) $$ Hw7; iintro Hw7
  iapply (slot_peek c 0) $$ Ht; iintro %v8 Ht
  iapply (slot_store c 0) $$ Ht; iintro Ht
  rw [pay18_eq, pay20_eq, pay21_eq]
  iapply (run_ret c)
  iapply Hk
  isplitl [HO]; · iexact HO
  isplitl [Hd6]; · iexact Hd6
  isplitl [Hd7]; · iexact Hd7
  isplitl [Hx6]; · iexact Hx6
  isplitl [Hx7]; · iexact Hx7
  unfold summed totAt
  isplitl [Hw6]; · iexact Hw6
  isplitl [Hw7] <;> iassumption

end

end Cert.Scan

end
-- ==== Proof.PartsComm.lean ====
/-
# The kernel's parts: the barrier's wait, the copies between devices, the row of totals
-/
module

public import proofs.«01_k».proof.Proof.PartsIn

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A total on its way out, and one on its way in -/

/-- What the copy `o` places on takes beyond the receiver's leave: a share of the device's own
total, the copy's two duties and the place of the semaphore that announces its departure; -/
def sendReady (c : Dev nD) (o : Fin 8) : sProp 𝕄 :=
  iprop(owns (c : Thread nD τ) (tC 0) (part o) (totAt m c) ∗ dutyTok ER (sendCell c o) 0 0 ∗ dutyTok ER (recvCell (fwd c o) o) 0 0
    ∗ atPos ER (sendCell c o) 0 ∅ 0)
/-- the copy under way; -/
def departing (c : Dev nD) (o : Fin 8) : sProp 𝕄 := iprop(cred (tallyAt (sendCell c o) () N) ∗ atPos ER (sendCell c o) 0 ∅ 0)
/-- the share back, the semaphore at zero. -/
def gone (c : Dev nD) (o : Fin 8) : sProp 𝕄 := iprop(semVal (sendCell c o) 0 ∗ owns (c : Thread nD τ) (tC 0) (part o) (totAt m c))
/-- The promise of a total from the device `o` places back; -/
def arriving (c : Dev nD) (o : Fin 8) : sProp 𝕄 := iprop(cred (tallyAt (recvCell c o) () N) ∗ atPos ER (recvCell c o) 0 ∅ 0)
/-- and that total, arrived. -/
def come (c : Dev nD) (o : Fin 8) : sProp 𝕄 := iprop(semVal (recvCell c o) 0 ∗ owns (c : Thread nD τ) (tC o) fullShare (totAt m (bwd c o)))

section
variable (K : Dev nD × CellIx → ℕ) (c : Dev nD) {α : Type}

theorem send_step {n : Dev nD} (o : Fin 8) (l : List (Fin 8)) (hn : n = fwd c o) (ho : o ≠ 0)
    {hsc : (tS o : Memref sig (Dev.tc n : Thread nD τ).2.kind .vmem S1x1024 .f32).view.ref.isScScratch = false}
    {hsrc : (tS 0).view.WordExact} {hdst : (tS o).view.WordExact}
    {hsem : DmaTarget.Typed (p := .tc) .vmem (.dma (recvS o)) (.remote (Dev.tc n : Thread nD τ) (tS o) (.dma (sendS o)) hsc)}
    {p : PUnit → Prog (TpuEff nD τ sig (Elt F) Λ₀ .tc) α} {Q : α → sProp 𝕄} :
    iprop(records m K ∗ owesE c (owR c (o :: l)) ∗ sendReady m c o ∗ barPay c (opp o))
      ⊢ iprop(((owesE c (owR c l) ∗ departing c o) -∗ run c (p ⟨⟩) Q)
        -∗ run c (.op (.enqueueDma (tS 0) (.remote (Dev.tc n : Thread nD τ) (tS o) (.dma (sendS o)) hsc) (.dma (recvS o)) hsrc hdst hsem) p) Q) := by
  unfold sendReady departing
  rw [owR_cons]
  iintro ⟨#HR, HO, ⟨Hs, HtS, HtR, Hat⟩, Hd⟩ Hk
  iapply (send m K c hn ho (owR c l)) $$ [HO Hs HtS HtR Hd]
  · isplitr; · iexact HR
    isplitl [Hs]; · iexact Hs
    isplitl [Hd]; · iexact Hd
    isplitl [HO]; · iexact HO
    isplitl [HtS] <;> iassumption
  iintro ⟨Hc, HO⟩
  iapply Hk
  isplitl [HO]; · iexact HO
  isplitl [Hc] <;> iassumption

theorem depart_step (o : Fin 8) (ho : o ≠ 0) {hsrc : (tS o).view.WordExact} {hdst : (tS 0).view.WordExact}
    {p : PUnit → Prog (TpuEff nD τ sig (Elt F) Λ₀ .tc) α} {Q : α → sProp 𝕄} :
    iprop(records m K ∗ owesE c 0 ∗ departing c o)
      ⊢ iprop(((owesE c 0 ∗ gone m c o) -∗ run c (p ⟨⟩) Q) -∗ run c (.op (.waitDma2 (sendS o) (tS o) (tS 0) hsrc hdst) p) Q) := by
  unfold departing gone
  iintro ⟨#HR, HO, Hc, Hat⟩ Hk
  iapply (departed m K c ho rfl) $$ [HO Hc Hat]
  · isplitr; · iexact HR
    isplitl [Hc]; · iexact Hc
    isplitl [HO] <;> iassumption
  iexact Hk

theorem arrive_step (o : Fin 8) (ho : o ≠ 0) {hsrc : (tS 0).view.WordExact} {hdst : (tS o).view.WordExact}
    {p : PUnit → Prog (TpuEff nD τ sig (Elt F) Λ₀ .tc) α} {Q : α → sProp 𝕄} :
    iprop(records m K ∗ owesE c 0 ∗ arriving c o)
      ⊢ iprop(((owesE c 0 ∗ come m c o) -∗ run c (p ⟨⟩) Q) -∗ run c (.op (.waitDma2 (recvS o) (tS 0) (tS o) hsrc hdst) p) Q) := by
  unfold arriving come
  iintro ⟨#HR, HO, Hc, Hat⟩ Hk
  iapply (arrived m K c ho (dst := tS o) rfl) $$ [HO Hc Hat]
  · isplitr; · iexact HR
    isplitl [Hc]; · iexact Hc
    isplitl [HO] <;> iassumption
  iexact Hk

/-- Loading a total that has arrived. -/
theorem come_load (o : Fin 8) {hl : (tM : Memref sig .tc .vmem S8x1x1024 .f32).view.LoadsAt (slotR o).toLoadRect}
    {p : Vec F S1x1x1024 .f32 → Prog (TpuEff nD τ sig (Elt F) Λ₀ .tc) α} {Q : α → sProp 𝕄} :
    (come m c o : sProp 𝕄) ⊢ iprop((come m c o -∗ run c (p (totAt m (bwd c o))) Q)
      -∗ run c (.op (.load tM (slotR o).toLoadRect hl) p) Q) := by
  unfold come
  iintro ⟨Hz, H⟩ Hk
  iapply (load_rect c (M := tM) (r := slotR o) (fun _ => rfl)) $$ H
  iintro H
  iapply Hk
  isplitl [Hz] <;> iassumption

/-- The receivers' leave, one slot after another. -/
theorem pays_split : (bigSep (Finset.univ.erase (0 : Fin 8)) fun o => barPay c o : sProp 𝕄)
    ⊢ iprop(barPay c (opp 1) ∗ barPay c (opp 2) ∗ barPay c (opp 3) ∗ barPay c (opp 4) ∗ barPay c (opp 5) ∗ barPay c (opp 6) ∗ barPay c (opp 7)) := by
  rw [bigSep_eq_bigSepL_of_eq [opp 1, opp 2, opp 3, opp 4, opp 5, opp 6, opp 7] (by decide) (by decide)]
  simp only [bigSepL_cons_cons, bigSepL_singleton]
  iintro H; iexact H

/-- The devices the kernel copies to, in its own words. -/
theorem dev8 : (⟨k0_dev8 c, k0_dev8_lt c⟩ : Dev nD) = fwd c 1 := by revert c; decide
theorem dev9 : (⟨k0_dev9 c, k0_dev9_lt c⟩ : Dev nD) = fwd c 2 := by revert c; decide
theorem dev10 : (⟨k0_dev10 c, k0_dev10_lt c⟩ : Dev nD) = fwd c 3 := by revert c; decide
theorem dev11 : (⟨k0_dev11 c, k0_dev11_lt c⟩ : Dev nD) = fwd c 4 := by revert c; decide
theorem dev12 : (⟨k0_dev12 c, k0_dev12_lt c⟩ : Dev nD) = fwd c 5 := by revert c; decide
theorem dev13 : (⟨k0_dev13 c, k0_dev13_lt c⟩ : Dev nD) = fwd c 6 := by revert c; decide
theorem dev14 : (⟨k0_dev14 c, k0_dev14_lt c⟩ : Dev nD) = fwd c 7 := by revert c; decide

theorem owes_nil : (owesE c (owR c []) : sProp 𝕄) ⊢ owesE c 0 := by
  rw [owR_nil]

theorem owes_offs : (owesE c (owR c offs) : sProp 𝕄) ⊢ owesE c (owR c [1, 2, 3, 4, 5, 6, 7]) := by
  unfold offs; iintro H; iexact H

theorem row_text : k0_pay24 (devWord c) (k0_pay22 (devWord c) (totAt m (bwd c 1))) (Scalar.cmpi .sge (devWord c) 2#32) (k0_pay23 (totAt m (bwd c 2)))
    (Scalar.ofBits .f32 0x00000000#32) (totAt m (bwd c 3)) (totAt m (bwd c 4)) (totAt m (bwd c 5)) (totAt m (bwd c 6)) (totAt m (bwd c 7)) = rowAt m c := rfl

/-! ## The parts -/

variable (h0 : (xM : Memref sig .tc .hbm S2048x1024 .f32).IsWhole) (h1 : (oM : Memref sig .tc .hbm S2048x1024 .bf16).IsWhole)
  (h2 : (vM : Memref sig .tc .vmem S2048x1024 .f32).IsWhole) (h3 : (wM : Memref sig .tc .vmem S2048x1024 .bf16).IsWhole)
  (h4 : (tM : Memref sig .tc .vmem S8x1x1024 .f32).IsWhole)

theorem part9 {Q : _ → sProp 𝕄} :
    iprop(records m K ∗ levAts L lv ∗ cred (tallyAt (barCell c) () 7) ∗ atPos ER (barCell c) 0 ∅ 0 ∗ owesE c (owR c offs) ∗ sendReady m c 1)
      ⊢ iprop((∀ w₁ w₂, (owesE c (owR c [2, 3, 4, 5, 6, 7]) ∗ semVal (barCell c) 0 ∗ departing c 1
            ∗ barPay c (opp 2) ∗ barPay c (opp 3) ∗ barPay c (opp 4) ∗ barPay c (opp 5) ∗ barPay c (opp 6) ∗ barPay c (opp 7)) -∗ Q ⟨w₁, w₂⟩)
        -∗ run c (k0_part9 (F := F) xM h0 oM h1 vM h2 wM h3 tM h4 cc0_scratch3 cc0_scratch4 cc0_scratch5 cc0_scratch6 c (devWord c) barA) Q) := by
  rw [k0_part9_eq_skeleton]; unfold k0_part9_skel
  simp only [semWaitWord, Prog.lift, Prog.bind_op, Prog.bind_ret, Prog.pure_eq_ret]
  iintro ⟨#HR, #Hl, Hc, Hat, HO, Hs⟩ Hk
  iapply (barrier m K c rfl) $$ [Hc Hat HO]
  · isplitr; · iexact HR
    isplitr; · iexact Hl
    isplitl [Hc]; · iexact Hc
    isplitl [HO] <;> iassumption
  iintro ⟨HO, Hz, Hp⟩
  ihave HO := (owes_offs c) $$ HO
  ihave Hp := (pays_split c) $$ Hp
  icases Hp with ⟨Hp1, Hp⟩
  iapply (send_step m K c 1 [2, 3, 4, 5, 6, 7] (dev8 c) (by decide)) $$ [HO Hs Hp1]
  · isplitr; · iexact HR
    isplitl [HO]; · iexact HO
    isplitl [Hs] <;> iassumption
  iintro ⟨HO, Hd⟩
  iapply (run_ret c)
  iapply Hk
  isplitl [HO]; · iexact HO
  isplitl [Hz]; · iexact Hz
  isplitl [Hd] <;> iassumption

theorem part10 (a : BitVec 32) {Q : _ → sProp 𝕄} :
    iprop(records m K ∗ owesE c (owR c [2, 3, 4, 5, 6, 7]) ∗ sendReady m c 2 ∗ sendReady m c 3 ∗ barPay c (opp 2) ∗ barPay c (opp 3))
      ⊢ iprop((∀ w₁ w₂, (owesE c (owR c [4, 5, 6, 7]) ∗ departing c 2 ∗ departing c 3) -∗ Q ⟨w₁, w₂⟩)
        -∗ run c (k0_part10 (F := F) xM h0 oM h1 vM h2 wM h3 tM h4 cc0_scratch3 cc0_scratch4 cc0_scratch5 cc0_scratch6 c (devWord c) a) Q) := by
  rw [k0_part10_eq_skeleton]; unfold k0_part10_skel
  simp only [Prog.lift, Prog.bind_op, Prog.bind_ret, Prog.pure_eq_ret]
  iintro ⟨#HR, HO, Hs2, Hs3, Hp2, Hp3⟩ Hk
  iapply (send_step m K c 2 [3, 4, 5, 6, 7] (dev9 c) (by decide)) $$ [HO Hs2 Hp2]
  · isplitr; · iexact HR
    isplitl [HO]; · iexact HO
    isplitl [Hs2] <;> iassumption
  iintro ⟨HO, Hd2⟩
  iapply (send_step m K c 3 [4, 5, 6, 7] (dev10 c) (by decide)) $$ [HO Hs3 Hp3]
  · isplitr; · iexact HR
    isplitl [HO]; · iexact HO
    isplitl [Hs3] <;> iassumption
  iintro ⟨HO, Hd3⟩
  iapply (run_ret c)
  iapply Hk
  isplitl [HO]; · iexact HO
  isplitl [Hd2] <;> iassumption

theorem part11 (a : BitVec 32) {Q : _ → sProp 𝕄} :
    iprop(records m K ∗ owesE c (owR c [4, 5, 6, 7]) ∗ sendReady m c 4 ∗ barPay c (opp 4))
      ⊢ iprop((∀ w₁ w₂ w₃, (owesE c (owR c [5, 6, 7]) ∗ departing c 4) -∗ Q ⟨w₁, w₂, w₃⟩)
        -∗ run c (k0_part11 (F := F) xM h0 oM h1 vM h2 wM h3 tM h4 cc0_scratch3 cc0_scratch4 cc0_scratch5 cc0_scratch6 c (devWord c) a) Q) := by
  rw [k0_part11_eq_skeleton]; unfold k0_part11_skel
  simp only [Prog.lift, Prog.bind_op, Prog.bind_ret, Prog.pure_eq_ret]
  iintro ⟨#HR, HO, Hs4, Hp4⟩ Hk
  iapply (send_step m K c 4 [5, 6, 7] (dev11 c) (by decide)) $$ [HO Hs4 Hp4]
  · isplitr; · iexact HR
    isplitl [HO]; · iexact HO
    isplitl [Hs4] <;> iassumption
  iintro ⟨HO, Hd4⟩
  iapply (run_ret c)
  iapply Hk
  isplitl [HO] <;> iassumption

theorem part12 (a b : BitVec 32) {Q : _ → sProp 𝕄} :
    iprop(records m K ∗ owesE c (owR c [5, 6, 7]) ∗ sendReady m c 5 ∗ sendReady m c 6 ∗ barPay c (opp 5) ∗ barPay c (opp 6))
      ⊢ iprop((∀ w₁ w₂ w₃ w₄, (owesE c (owR c [7]) ∗ departing c 5 ∗ departing c 6) -∗ Q ⟨w₁, w₂, w₃, w₄⟩)
        -∗ run c (k0_part12 (F := F) xM h0 oM h1 vM h2 wM h3 tM h4 cc0_scratch3 cc0_scratch4 cc0_scratch5 cc0_scratch6 c (devWord c) a b) Q) := by
  rw [k0_part12_eq_skeleton]; unfold k0_part12_skel
  simp only [Prog.lift, Prog.bind_op, Prog.bind_ret, Prog.pure_eq_ret]
  iintro ⟨#HR, HO, Hs5, Hs6, Hp5, Hp6⟩ Hk
  iapply (send_step m K c 5 [6, 7] (dev12 c) (by decide)) $$ [HO Hs5 Hp5]
  · isplitr; · iexact HR
    isplitl [HO]; · iexact HO
    isplitl [Hs5] <;> iassumption
  iintro ⟨HO, Hd5⟩
  iapply (send_step m K c 6 [7] (dev13 c) (by decide)) $$ [HO Hs6 Hp6]
  · isplitr; · iexact HR
    isplitl [HO]; · iexact HO
    isplitl [Hs6] <;> iassumption
  iintro ⟨HO, Hd6⟩
  iapply (run_ret c)
  iapply Hk
  isplitl [HO]; · iexact HO
  isplitl [Hd5] <;> iassumption

theorem part13 (a b e : BitVec 32) (f : BitVec 1) {Q : _ → sProp 𝕄} :
    iprop(records m K ∗ owesE c (owR c [7]) ∗ sendReady m c 7 ∗ barPay c (opp 7) ∗ departing c 1)
      ⊢ iprop((∀ w, (owesE c 0 ∗ gone m c 1 ∗ departing c 7) -∗ Q w)
        -∗ run c (k0_part13 (F := F) xM h0 oM h1 vM h2 wM h3 tM h4 cc0_scratch3 cc0_scratch4 cc0_scratch5 cc0_scratch6 c a b e f) Q) := by
  rw [k0_part13_eq_skeleton]; unfold k0_part13_skel
  simp only [Prog.lift, Prog.bind_op, Prog.bind_ret, Prog.pure_eq_ret]
  iintro ⟨#HR, HO, Hs7, Hp7, Hd1⟩ Hk
  iapply (send_step m K c 7 [] (dev14 c) (by decide)) $$ [HO Hs7 Hp7]
  · isplitr; · iexact HR
    isplitl [HO]; · iexact HO
    isplitl [Hs7] <;> iassumption
  iintro ⟨HO, Hd7⟩
  ihave HO := (owes_nil c) $$ HO
  iapply (depart_step m K c 1 (by decide)) $$ [HO Hd1]
  · isplitr; · iexact HR
    isplitl [HO] <;> iassumption
  iintro ⟨HO, Hd1⟩
  iapply (run_ret c)
  iapply Hk
  isplitl [HO]; · iexact HO
  isplitl [Hd1] <;> iassumption

theorem part14 (a : BitVec 32) {Q : _ → sProp 𝕄} :
    iprop(records m K ∗ owesE c 0 ∗ arriving c 1 ∗ departing c 2 ∗ arriving c 2 ∗ departing c 3)
      ⊢ iprop(((owesE c 0 ∗ come m c 1 ∗ gone m c 2 ∗ come m c 2 ∗ gone m c 3) -∗ Q ⟨⟩)
        -∗ run c (k0_part14 (F := F) xM h0 oM h1 vM h2 wM h3 tM h4 cc0_scratch3 cc0_scratch4 cc0_scratch5 cc0_scratch6 a) Q) := by
  rw [k0_part14_eq_skeleton]; unfold k0_part14_skel
  simp only [Prog.lift, Prog.bind_op, Prog.bind_ret, Prog.pure_eq_ret]
  iintro ⟨#HR, HO, Ha1, Hd2, Ha2, Hd3⟩ Hk
  iapply (arrive_step m K c 1 (by decide)) $$ [HO Ha1]
  · isplitr; · iexact HR
    isplitl [HO] <;> iassumption
  iintro ⟨HO, Ha1⟩
  iapply (depart_step m K c 2 (by decide)) $$ [HO Hd2]
  · isplitr; · iexact HR
    isplitl [HO] <;> iassumption
  iintro ⟨HO, Hd2⟩
  iapply (arrive_step m K c 2 (by decide)) $$ [HO Ha2]
  · isplitr; · iexact HR
    isplitl [HO] <;> iassumption
  iintro ⟨HO, Ha2⟩
  iapply (depart_step m K c 3 (by decide)) $$ [HO Hd3]
  · isplitr; · iexact HR
    isplitl [HO] <;> iassumption
  iintro ⟨HO, Hd3⟩
  iapply (run_ret c)
  iapply Hk
  isplitl [HO]; · iexact HO
  isplitl [Ha1]; · iexact Ha1
  isplitl [Hd2]; · iexact Hd2
  isplitl [Ha2] <;> iassumption

theorem part15 (a b : BitVec 32) {Q : _ → sProp 𝕄} :
    iprop(records m K ∗ owesE c 0 ∗ arriving c 3 ∗ departing c 4 ∗ arriving c 4)
      ⊢ iprop(((owesE c 0 ∗ come m c 3 ∗ gone m c 4 ∗ come m c 4) -∗ Q ⟨⟩)
        -∗ run c (k0_part15 (F := F) xM h0 oM h1 vM h2 wM h3 tM h4 cc0_scratch3 cc0_scratch4 cc0_scratch5 cc0_scratch6 a b) Q) := by
  rw [k0_part15_eq_skeleton]; unfold k0_part15_skel
  simp only [Prog.lift, Prog.bind_op, Prog.bind_ret, Prog.pure_eq_ret]
  iintro ⟨#HR, HO, Ha3, Hd4, Ha4⟩ Hk
  iapply (arrive_step m K c 3 (by decide)) $$ [HO Ha3]
  · isplitr; · iexact HR
    isplitl [HO] <;> iassumption
  iintro ⟨HO, Ha3⟩
  iapply (depart_step m K c 4 (by decide)) $$ [HO Hd4]
  · isplitr; · iexact HR
    isplitl [HO] <;> iassumption
  iintro ⟨HO, Hd4⟩
  iapply (arrive_step m K c 4 (by decide)) $$ [HO Ha4]
  · isplitr; · iexact HR
    isplitl [HO] <;> iassumption
  iintro ⟨HO, Ha4⟩
  iapply (run_ret c)
  iapply Hk
  isplitl [HO]; · iexact HO
  isplitl [Ha3]; · iexact Ha3
  isplitl [Hd4] <;> iassumption

theorem part16 (a b : BitVec 32) {Q : _ → sProp 𝕄} :
    iprop(records m K ∗ owesE c 0 ∗ departing c 5 ∗ arriving c 5 ∗ departing c 6)
      ⊢ iprop(((owesE c 0 ∗ gone m c 5 ∗ come m c 5 ∗ gone m c 6) -∗ Q ⟨⟩)
        -∗ run c (k0_part16 (F := F) xM h0 oM h1 vM h2 wM h3 tM h4 cc0_scratch3 cc0_scratch4 cc0_scratch5 cc0_scratch6 a b) Q) := by
  rw [k0_part16_eq_skeleton]; unfold k0_part16_skel
  simp only [Prog.lift, Prog.bind_op, Prog.bind_ret, Prog.pure_eq_ret]
  iintro ⟨#HR, HO, Hd5, Ha5, Hd6⟩ Hk
  iapply (depart_step m K c 5 (by decide)) $$ [HO Hd5]
  · isplitr; · iexact HR
    isplitl [HO] <;> iassumption
  iintro ⟨HO, Hd5⟩
  iapply (arrive_step m K c 5 (by decide)) $$ [HO Ha5]
  · isplitr; · iexact HR
    isplitl [HO] <;> iassumption
  iintro ⟨HO, Ha5⟩
  iapply (depart_step m K c 6 (by decide)) $$ [HO Hd6]
  · isplitr; · iexact HR
    isplitl [HO] <;> iassumption
  iintro ⟨HO, Hd6⟩
  iapply (run_ret c)
  iapply Hk
  isplitl [HO]; · iexact HO
  isplitl [Hd5]; · iexact Hd5
  isplitl [Ha5] <;> iassumption

theorem part17 (a : BitVec 32) {Q : _ → sProp 𝕄} :
    iprop(records m K ∗ owesE c 0 ∗ arriving c 6 ∗ departing c 7 ∗ arriving c 7 ∗ come m c 1 ∗ come m c 2)
      ⊢ iprop(((owesE c 0 ∗ come m c 6 ∗ gone m c 7 ∗ come m c 7 ∗ come m c 1 ∗ come m c 2)
          -∗ Q ⟨k0_pay22 (devWord c) (totAt m (bwd c 1)), Scalar.cmpi .sge (devWord c) 2#32, k0_pay23 (totAt m (bwd c 2)),
              Scalar.ofBits .f32 0x00000000#32⟩)
        -∗ run c (k0_part17 (F := F) xM h0 oM h1 vM h2 wM h3 tM h4 cc0_scratch3 cc0_scratch4 cc0_scratch5 cc0_scratch6 (devWord c) a) Q) := by
  rw [k0_part17_eq_skeleton]; unfold k0_part17_skel
  simp only [Prog.lift, Prog.bind_op, Prog.bind_ret, Prog.pure_eq_ret]
  iintro ⟨#HR, HO, Ha6, Hd7, Ha7, Ha1, Ha2⟩ Hk
  iapply (arrive_step m K c 6 (by decide)) $$ [HO Ha6]
  · isplitr; · iexact HR
    isplitl [HO] <;> iassumption
  iintro ⟨HO, Ha6⟩
  iapply (depart_step m K c 7 (by decide)) $$ [HO Hd7]
  · isplitr; · iexact HR
    isplitl [HO] <;> iassumption
  iintro ⟨HO, Hd7⟩
  iapply (arrive_step m K c 7 (by decide)) $$ [HO Ha7]
  · isplitr; · iexact HR
    isplitl [HO] <;> iassumption
  iintro ⟨HO, Ha7⟩
  iapply (come_load m c 1) $$ Ha1; iintro Ha1
  iapply (come_load m c 2) $$ Ha2; iintro Ha2
  iapply (run_ret c)
  iapply Hk
  isplitl [HO]; · iexact HO
  isplitl [Ha6]; · iexact Ha6
  isplitl [Hd7]; · iexact Hd7
  isplitl [Ha7]; · iexact Ha7
  isplitl [Ha1] <;> iassumption

theorem part18 {Q : _ → sProp 𝕄} :
    iprop(come m c 3 ∗ come m c 4 ∗ come m c 5 ∗ come m c 6 ∗ come m c 7)
      ⊢ iprop(((come m c 3 ∗ come m c 4 ∗ come m c 5 ∗ come m c 6 ∗ come m c 7) -∗ Q (rowAt m c))
        -∗ run c (k0_part18 (F := F) xM h0 oM h1 vM h2 wM h3 tM h4 cc0_scratch3 cc0_scratch4 cc0_scratch5 cc0_scratch6 (devWord c)
            (k0_pay22 (devWord c) (totAt m (bwd c 1))) (Scalar.cmpi .sge (devWord c) 2#32) (k0_pay23 (totAt m (bwd c 2)))
            (Scalar.ofBits .f32 0x00000000#32)) Q) := by
  rw [k0_part18_eq_skeleton]; unfold k0_part18_skel
  simp only [Prog.lift, Prog.bind_op, Prog.bind_ret, Prog.pure_eq_ret]
  iintro ⟨H3, H4, H5, H6, H7⟩ Hk
  iapply (come_load m c 3) $$ H3; iintro H3
  iapply (come_load m c 4) $$ H4; iintro H4
  iapply (come_load m c 5) $$ H5; iintro H5
  iapply (come_load m c 6) $$ H6; iintro H6
  iapply (come_load m c 7) $$ H7; iintro H7
  rw [row_text]
  iapply (run_ret c)
  iapply Hk
  isplitl [H3]; · iexact H3
  isplitl [H4]; · iexact H4
  isplitl [H5]; · iexact H5
  isplitl [H6] <;> iassumption

end

end Cert.Scan

end
-- ==== Proof.PartsOut.lean ====
/-
# The kernel's parts: the row added to each chunk, and the copies out
-/
module

public import proofs.«01_k».proof.Proof.PartsComm

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A chunk on its way out -/

/-- Chunk `k` of the result, in the device's own memory; -/
def finished (c : Dev nD) (k : Fin 8) : sProp 𝕄 := owns (c : Thread nD τ) (wC k) fullShare (finalAt m c k)
/-- where it is to go, and the semaphore to announce it; -/
def outReady (c : Dev nD) (k : Fin 8) : sProp 𝕄 := iprop(anyAt c (oC k) ∗ semVal ((c : Thread nD τ), .dma (outS k)) 0)
/-- the copy under way; -/
def outFlight (c : Dev nD) (k : Fin 8) : sProp 𝕄 := Copying c (wC k) (oC k) (outS k) (finalAt m c k)
/-- the copy made. -/
def outDone (c : Dev nD) (k : Fin 8) : sProp 𝕄 :=
  iprop(finished m c k ∗ owns (c : Thread nD τ) (oC k) fullShare (finalAt m c k) ∗ semVal ((c : Thread nD τ), .dma (outS k)) 0)

section
variable (c : Dev nD) {α : Type}

theorem summed_load (k : Fin 8) {hl : (wM : Memref sig .tc .vmem S2048x1024 .bf16).view.LoadsAt (chunkR k).toLoadRect}
    {p : Vec F S256x1024 .bf16 → Prog (TpuEff nD τ sig (Elt F) Λ₀ .tc) α} {Q : α → sProp 𝕄} :
    (summed m c k : sProp 𝕄) ⊢ iprop((summed m c k -∗ run c (p (cum (chunksAt m c) k)) Q)
      -∗ run c (.op (.load wM (chunkR k).toLoadRect hl) p) Q) :=
  load_rect c (fun _ => rfl)

theorem final_store (k : Fin 8) {hx : ((wM : Memref sig .tc .vmem S2048x1024 .bf16).access (chunkR k)).Stores Finset.univ}
    {hm : (Finset.univ : Finset (chunkR k).shape.Idx) = Finset.univ ∨ ∀ a, (chunkR k).stride a = 1}
    {p : PUnit → Prog (TpuEff nD τ sig (Elt F) Λ₀ .tc) α} {Q : α → sProp 𝕄} :
    (summed m c k : sProp 𝕄) ⊢ iprop((finished m c k -∗ run c (p ⟨⟩) Q)
      -∗ run c (.op (.store wM (chunkR k) (finalAt m c k) Finset.univ hx hm) p) Q) :=
  (any_intro c).trans (sum_store c k)

theorem out_start (k : Fin 8) {hsrc : (wC k).view.WordExact} {hdst : (oC k).view.WordExact}
    {hsem : DmaTarget.Typed (nD := nD) (τ := τ) (p := .tc) .vmem (.dma (outS k)) (.here (oC k))}
    {p : PUnit → Prog (TpuEff nD τ sig (Elt F) Λ₀ .tc) α} {Q : α → sProp 𝕄} :
    iprop(finished m c k ∗ outReady c k) ⊢ iprop((outFlight m c k -∗ run c (p ⟨⟩) Q)
      -∗ run c (.op (.enqueueDma (wC k) (.here (oC k)) (.dma (outS k)) hsrc hdst hsem) p) Q) :=
  copy_start c (View.dmaCredit_pos _ (by decide))

theorem out_wait (k : Fin 8) {hsrc : (wC k).view.WordExact} {hdst : (oC k).view.WordExact}
    {p : PUnit → Prog (TpuEff nD τ sig (Elt F) Λ₀ .tc) α} {Q : α → sProp 𝕄} :
    iprop(owesE c 0 ∗ outFlight m c k)
      ⊢ iprop(((owesE c 0 ∗ outDone m c k) -∗ run c (p ⟨⟩) Q)
          -∗ run c (.op (.waitDma2 (outS k) (wC k) (oC k) hsrc hdst) p) Q) := by
  iintro ⟨HO, Hf⟩ Hk
  unfold outFlight
  iapply (copy_wait c) $$ [Hf HO]
  · isplitl [Hf]; · iexact Hf
    isplitl [HO]; · iexact HO
    rw [MayWait_zero]; iempintro
  iintro ⟨Hs, Hd, Hv, HO⟩
  iapply Hk
  unfold outDone finished
  isplitl [HO]; · iexact HO
  isplitl [Hs]; · iexact Hs
  isplitl [Hd] <;> iassumption

/-! The kernel writes the sum of a chunk and the row once per chunk. -/

theorem final25 (k : Fin 8) : k0_pay25 (rowAt m c) (cum (chunksAt m c) k) = finalAt m c k := rfl
theorem final26 (k : Fin 8) : k0_pay26 (rowAt m c) (cum (chunksAt m c) k) = finalAt m c k := rfl
theorem final27 (k : Fin 8) : k0_pay27 (rowAt m c) (cum (chunksAt m c) k) = finalAt m c k := rfl
theorem final28 (k : Fin 8) : k0_pay28 (rowAt m c) (cum (chunksAt m c) k) = finalAt m c k := rfl
theorem final29 (k : Fin 8) : k0_pay29 (rowAt m c) (cum (chunksAt m c) k) = finalAt m c k := rfl
theorem final32 (k : Fin 8) : k0_pay32 (rowAt m c) (cum (chunksAt m c) k) = finalAt m c k := rfl
theorem final33 (k : Fin 8) : k0_pay33 (rowAt m c) (cum (chunksAt m c) k) = finalAt m c k := rfl
theorem final31 (k : Fin 8) : k0_pay31 (k0_pay30 (rowAt m c) (cum (chunksAt m c) k)) = finalAt m c k := rfl

/-! ## The parts -/

variable (h0 : (xM : Memref sig .tc .hbm S2048x1024 .f32).IsWhole) (h1 : (oM : Memref sig .tc .hbm S2048x1024 .bf16).IsWhole)
  (h2 : (vM : Memref sig .tc .vmem S2048x1024 .f32).IsWhole) (h3 : (wM : Memref sig .tc .vmem S2048x1024 .bf16).IsWhole)
  (h4 : (tM : Memref sig .tc .vmem S8x1x1024 .f32).IsWhole)

theorem part19 {Q : _ → sProp 𝕄} :
    iprop(summed m c 0 ∗ summed m c 1 ∗ summed m c 2 ∗ outReady c 0 ∗ outReady c 1)
      ⊢ iprop(((outFlight m c 0 ∗ outFlight m c 1 ∗ finished m c 2) -∗ Q ⟨⟩)
        -∗ run c (k0_part19 (F := F) xM h0 oM h1 vM h2 wM h3 tM h4 cc0_scratch3 cc0_scratch4 cc0_scratch5 cc0_scratch6 (rowAt m c)) Q) := by
  rw [k0_part19_eq_skeleton]; unfold k0_part19_skel
  simp only [Prog.lift, Prog.bind_op, Prog.bind_ret, Prog.pure_eq_ret]
  iintro ⟨H0, H1, H2, Ho0, Ho1⟩ Hk
  iapply (summed_load m c 0) $$ H0; iintro H0
  iapply (summed_load m c 0) $$ H0; iintro H0
  rw [final25]
  iapply (final_store m c 0) $$ H0; iintro H0
  iapply (out_start m c 0) $$ [H0 Ho0]
  · isplitl [H0] <;> iassumption
  iintro H0
  iapply (summed_load m c 1) $$ H1; iintro H1
  iapply (summed_load m c 1) $$ H1; iintro H1
  rw [final26]
  iapply (final_store m c 1) $$ H1; iintro H1
  iapply (out_start m c 1) $$ [H1 Ho1]
  · isplitl [H1] <;> iassumption
  iintro H1
  iapply (summed_load m c 2) $$ H2; iintro H2
  iapply (summed_load m c 2) $$ H2; iintro H2
  rw [final27]
  iapply (final_store m c 2) $$ H2; iintro H2
  iapply (run_ret c)
  iapply Hk
  isplitl [H0]; · iexact H0
  isplitl [H1] <;> iassumption

theorem part20 {Q : _ → sProp 𝕄} :
    iprop(finished m c 2 ∗ summed m c 3 ∗ summed m c 4 ∗ summed m c 5 ∗ outReady c 2 ∗ outReady c 3 ∗ outReady c 4)
      ⊢ iprop(((outFlight m c 2 ∗ outFlight m c 3 ∗ outFlight m c 4 ∗ summed m c 5) -∗ Q (k0_pay30 (rowAt m c) (cum (chunksAt m c) 5)))
        -∗ run c (k0_part20 (F := F) xM h0 oM h1 vM h2 wM h3 tM h4 cc0_scratch3 cc0_scratch4 cc0_scratch5 cc0_scratch6 (rowAt m c)) Q) := by
  rw [k0_part20_eq_skeleton]; unfold k0_part20_skel
  simp only [Prog.lift, Prog.bind_op, Prog.bind_ret, Prog.pure_eq_ret]
  iintro ⟨H2, H3, H4, H5, Ho2, Ho3, Ho4⟩ Hk
  iapply (out_start m c 2) $$ [H2 Ho2]
  · isplitl [H2] <;> iassumption
  iintro H2
  iapply (summed_load m c 3) $$ H3; iintro H3
  iapply (summed_load m c 3) $$ H3; iintro H3
  rw [final28]
  iapply (final_store m c 3) $$ H3; iintro H3
  iapply (out_start m c 3) $$ [H3 Ho3]
  · isplitl [H3] <;> iassumption
  iintro H3
  iapply (summed_load m c 4) $$ H4; iintro H4
  iapply (summed_load m c 4) $$ H4; iintro H4
  rw [final29]
  iapply (final_store m c 4) $$ H4; iintro H4
  iapply (out_start m c 4) $$ [H4 Ho4]
  · isplitl [H4] <;> iassumption
  iintro H4
  iapply (summed_load m c 5) $$ H5; iintro H5
  iapply (run_ret c)
  iapply Hk
  isplitl [H2]; · iexact H2
  isplitl [H3]; · iexact H3
  isplitl [H4] <;> iassumption

theorem part21 {Q : _ → sProp 𝕄} :
    iprop(summed m c 5 ∗ summed m c 6 ∗ summed m c 7 ∗ outReady c 5 ∗ outReady c 6)
      ⊢ iprop(((outFlight m c 5 ∗ outFlight m c 6 ∗ finished m c 7) -∗ Q ⟨⟩)
        -∗ run c (k0_part21 (F := F) xM h0 oM h1 vM h2 wM h3 tM h4 cc0_scratch3 cc0_scratch4 cc0_scratch5 cc0_scratch6 (rowAt m c) (k0_pay30 (rowAt m c) (cum (chunksAt m c) 5))) Q) := by
  rw [k0_part21_eq_skeleton]; unfold k0_part21_skel
  simp only [Prog.lift, Prog.bind_op, Prog.bind_ret, Prog.pure_eq_ret]
  iintro ⟨H5, H6, H7, Ho5, Ho6⟩ Hk
  iapply (summed_load m c 5) $$ H5; iintro H5
  rw [final31]
  iapply (final_store m c 5) $$ H5; iintro H5
  iapply (out_start m c 5) $$ [H5 Ho5]
  · isplitl [H5] <;> iassumption
  iintro H5
  iapply (summed_load m c 6) $$ H6; iintro H6
  iapply (summed_load m c 6) $$ H6; iintro H6
  rw [final32]
  iapply (final_store m c 6) $$ H6; iintro H6
  iapply (out_start m c 6) $$ [H6 Ho6]
  · isplitl [H6] <;> iassumption
  iintro H6
  iapply (summed_load m c 7) $$ H7; iintro H7
  iapply (summed_load m c 7) $$ H7; iintro H7
  rw [final33]
  iapply (final_store m c 7) $$ H7; iintro H7
  iapply (run_ret c)
  iapply Hk
  isplitl [H5]; · iexact H5
  isplitl [H6] <;> iassumption

theorem part22 {Q : _ → sProp 𝕄} :
    iprop(owesE c 0 ∗ finished m c 7 ∗ outReady c 7 ∗ outFlight m c 0 ∗ outFlight m c 1 ∗ outFlight m c 2 ∗ outFlight m c 3 ∗ outFlight m c 4)
      ⊢ iprop(((owesE c 0 ∗ outFlight m c 7 ∗ outDone m c 0 ∗ outDone m c 1 ∗ outDone m c 2 ∗ outDone m c 3 ∗ outDone m c 4) -∗ Q ⟨⟩)
        -∗ run c (k0_part22 (F := F) xM h0 oM h1 vM h2 wM h3 tM h4 cc0_scratch3 cc0_scratch4 cc0_scratch5 cc0_scratch6 ) Q) := by
  rw [k0_part22_eq_skeleton]; unfold k0_part22_skel
  simp only [Prog.lift, Prog.bind_op, Prog.bind_ret, Prog.pure_eq_ret]
  iintro ⟨HO, H7, Ho7, H0, H1, H2, H3, H4⟩ Hk
  iapply (out_start m c 7) $$ [H7 Ho7]
  · isplitl [H7] <;> iassumption
  iintro H7
  iapply (out_wait m c 0) $$ [HO H0]
  · isplitl [HO] <;> iassumption
  iintro ⟨HO, H0⟩
  iapply (out_wait m c 1) $$ [HO H1]
  · isplitl [HO] <;> iassumption
  iintro ⟨HO, H1⟩
  iapply (out_wait m c 2) $$ [HO H2]
  · isplitl [HO] <;> iassumption
  iintro ⟨HO, H2⟩
  iapply (out_wait m c 3) $$ [HO H3]
  · isplitl [HO] <;> iassumption
  iintro ⟨HO, H3⟩
  iapply (out_wait m c 4) $$ [HO H4]
  · isplitl [HO] <;> iassumption
  iintro ⟨HO, H4⟩
  iapply (run_ret c)
  iapply Hk
  isplitl [HO]; · iexact HO
  isplitl [H7]; · iexact H7
  isplitl [H0]; · iexact H0
  isplitl [H1]; · iexact H1
  isplitl [H2]; · iexact H2
  isplitl [H3] <;> iassumption

end

end Cert.Scan

end
-- ==== Proof.Body.lean ====
/-
# The whole body of the kernel on one device
-/
module

public import proofs.«01_k».proof.Proof.PartsOut
public import Idealize.ShloMosaic.Lib.MemrefSat

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Eight at a time -/

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The offsets to the other devices. -/
abbrev others : Finset (Fin 8) := Finset.univ.erase 0
theorem seven (Φ : Fin 8 → sProp 𝕄) : bigSep others Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

section
variable (K : Dev nD × CellIx → ℕ) (c : Dev nD)

/-! ## The shares of slot 0 -/

theorem share_step (n : ℕ) : (owns (c : Thread nD τ) (tC 0) (rest n) (totAt m c) : sProp 𝕄)
    ⊣⊢ iprop(owns (c : Thread nD τ) (tC 0) (rest n).left (totAt m c) ∗ owns (c : Thread nD τ) (tC 0) (rest (n + 1)) (totAt m c)) :=
  owns_halves _ _ _ _

/-- A share for each copy, and a rest; -/
def shared : sProp 𝕄 := iprop((bigSep others fun o => owns (c : Thread nD τ) (tC 0) (part o) (totAt m c)) ∗ owns (c : Thread nD τ) (tC 0) (rest 7) (totAt m c))

theorem share_out : (owns (c : Thread nD τ) (tC 0) fullShare (totAt m c) : sProp 𝕄) ⊢ shared m c := by
  unfold shared; rw [seven]
  show (owns (c : Thread nD τ) (tC 0) (rest 0) (totAt m c) : sProp 𝕄) ⊢ _
  iintro H
  ihave H := (share_step m c 0).1 $$ H; icases H with ⟨H1, H⟩
  ihave H := (share_step m c 1).1 $$ H; icases H with ⟨H2, H⟩
  ihave H := (share_step m c 2).1 $$ H; icases H with ⟨H3, H⟩
  ihave H := (share_step m c 3).1 $$ H; icases H with ⟨H4, H⟩
  ihave H := (share_step m c 4).1 $$ H; icases H with ⟨H5, H⟩
  ihave H := (share_step m c 5).1 $$ H; icases H with ⟨H6, H⟩
  ihave H := (share_step m c 6).1 $$ H; icases H with ⟨H7, H⟩
  isplitr [H]
  · isplitl [H1]; · iexact H1
    isplitl [H2]; · iexact H2
    isplitl [H3]; · iexact H3
    isplitl [H4]; · iexact H4
    isplitl [H5]; · iexact H5
    isplitl [H6]; · iexact H6
    iexact H7
  iexact H

/-- and back. -/
theorem share_back : (shared m c : sProp 𝕄) ⊢ owns (c : Thread nD τ) (tC 0) fullShare (totAt m c) := by
  unfold shared; rw [seven]
  show _ ⊢ (owns (c : Thread nD τ) (tC 0) (rest 0) (totAt m c) : sProp 𝕄)
  iintro ⟨⟨H1, H2, H3, H4, H5, H6, H7⟩, H⟩
  iapply (share_step m c 0).2; isplitl [H1]; · iexact H1
  iapply (share_step m c 1).2; isplitl [H2]; · iexact H2
  iapply (share_step m c 2).2; isplitl [H3]; · iexact H3
  iapply (share_step m c 3).2; isplitl [H4]; · iexact H4
  iapply (share_step m c 4).2; isplitl [H5]; · iexact H5
  iapply (share_step m c 5).2; isplitl [H6]; · iexact H6
  iapply (share_step m c 6).2; isplitl [H7]; · iexact H7
  iexact H

/-! ## The body -/

/-- The two duties of the copy `o` places on, and the place of its departure. -/
def sendToks (o : Fin 8) : sProp 𝕄 :=
  iprop(dutyTok ER (sendCell c o) 0 0 ∗ dutyTok ER (recvCell (fwd c o) o) 0 0 ∗ atPos ER (sendCell c o) 0 ∅ 0)

/-- What the body starts from, -/
def bodyIn : sProp 𝕄 :=
  iprop(records m K ∗ levAts L lv ∗ owing c offs
    ∗ (bigSep Finset.univ fun k => inReady m c k) ∗ (bigSep Finset.univ fun k => anyAt c (wC k)) ∗ (bigSep Finset.univ fun k => outReady c k)
    ∗ (bigSep others fun o => sigReady c o) ∗ anyAt c (tC 0)
    ∗ cred (tallyAt (barCell c) () 7) ∗ atPos ER (barCell c) 0 ∅ 0
    ∗ (bigSep others fun o => sendToks c o) ∗ (bigSep others fun o => arriving c o))

/-- and what it ends with. -/
def bodyOut : sProp 𝕄 :=
  iprop(owesE c 0
    ∗ (bigSep Finset.univ fun k => inDone m c k) ∗ (bigSep Finset.univ fun k => landed m c k) ∗ (bigSep Finset.univ fun k => outDone m c k)
    ∗ owns (c : Thread nD τ) (tC 0) fullShare (totAt m c) ∗ semVal (barCell c) 0
    ∗ (bigSep others fun o => semVal (sendCell c o) 0) ∗ (bigSep others fun o => come m c o))

theorem run_bind {α β : Type} {p : Prog (TpuEff nD τ sig (Elt F) Λ₀ .tc) α} {k : α → Prog (TpuEff nD τ sig (Elt F) Λ₀ .tc) β} {Q : β → sProp 𝕄} :
    run c (p >>= k) Q = run c p (fun a => run c (k a) Q) := by
  unfold run; exact wp_bind ..

/-- A share and its copy's duties make the copy ready. -/
theorem send_ready (o : Fin 8) : iprop(owns (c : Thread nD τ) (tC 0) (part o) (totAt m c) ∗ sendToks c o) ⊢ (sendReady m c o : sProp 𝕄) := by
  unfold sendReady sendToks; iintro H; iexact H

variable (h0 : (xM : Memref sig .tc .hbm S2048x1024 .f32).IsWhole) (h1 : (oM : Memref sig .tc .hbm S2048x1024 .bf16).IsWhole)
  (h2 : (vM : Memref sig .tc .vmem S2048x1024 .f32).IsWhole) (h3 : (wM : Memref sig .tc .vmem S2048x1024 .bf16).IsWhole)
  (h4 : (tM : Memref sig .tc .vmem S8x1x1024 .f32).IsWhole)

set_option maxHeartbeats 4000000 in
theorem body {Q : PUnit → sProp 𝕄} : (bodyIn m K c : sProp 𝕄) ⊢ iprop((bodyOut m c -∗ Q ⟨⟩)
    -∗ run c (cc0_body (F := F) xM h0 oM h1 vM h2 wM h3 tM h4 cc0_scratch3 cc0_scratch4 cc0_scratch5 cc0_scratch6) Q) := by
  rw [cc0_body_eq_skeleton]; unfold cc0_body_skel bodyIn bodyOut
  simp only [eight, seven]
  iintro ⟨#HR, #Hl, HO, ⟨X0, X1, X2, X3, X4, X5, X6, X7⟩, ⟨W0, W1, W2, W3, W4, W5, W6, W7⟩, ⟨O0, O1, O2, O3, O4, O5, O6, O7⟩,
    ⟨G1, G2, G3, G4, G5, G6, G7⟩, HT, Hc, Hb, ⟨S1, S2, S3, S4, S5, S6, S7⟩, A1, A2, A3, A4, A5, A6, A7⟩ Hk
  rw [run_bind]
  iapply (part1 m c h0 h1 h2 h3 h4) $$ [X0 X1 X2 X3 X4]
  · isplitl [X0]; · iexact X0
    isplitl [X1]; · iexact X1
    isplitl [X2]; · iexact X2
    isplitl [X3]; · iexact X3
    iexact X4
  iintro ⟨X0, X1, X2, X3, X4⟩
  try dsimp only
  rw [run_bind]
  iapply (part2 m K c h0 h1 h2 h3 h4) $$ [X5 X6 X7 HO G1]
  · isplitr; · iexact HR
    isplitl [X5]; · iexact X5
    isplitl [X6]; · iexact X6
    isplitl [X7]; · iexact X7
    isplitl [HO]; · iexact HO
    iexact G1
  iintro %a1 %a2 %a3 ⟨X5, X6, X7, HO⟩
  try dsimp only
  rw [run_bind]
  iapply (part3 m K c h0 h1 h2 h3 h4 a1 a2 a3) $$ [HO G2 G3]
  · isplitr; · iexact HR
    isplitl [HO]; · iexact HO
    isplitl [G2]; · iexact G2
    iexact G3
  iintro %b1 HO
  try dsimp only
  rw [run_bind]
  iapply (part4 m K c h0 h1 h2 h3 h4 b1) $$ [HO G4 G5 G6]
  · isplitr; · iexact HR
    isplitl [HO]; · iexact HO
    isplitl [G4]; · iexact G4
    isplitl [G5]; · iexact G5
    iexact G6
  iintro %d1 %d2 %d3 HO
  try dsimp only
  rw [run_bind]
  iapply (part5 m K c h0 h1 h2 h3 h4 d1 d2 d3) $$ [HO G7 X0 X1 W0]
  · isplitr; · iexact HR
    isplitr; · iexact Hl
    isplitl [HO]; · iexact HO
    isplitl [G7]; · iexact G7
    isplitl [X0]; · iexact X0
    isplitl [X1]; · iexact X1
    iexact W0
  iintro ⟨HO, D0, D1, L0, L1, W0⟩
  try dsimp only
  rw [run_bind]
  iapply (part6 m c h0 h1 h2 h3 h4) $$ [HO L1 X2 X3 W1 W2]
  · isplitr; · iexact Hl
    isplitl [HO]; · iexact HO
    isplitl [L1]; · iexact L1
    isplitl [X2]; · iexact X2
    isplitl [X3]; · iexact X3
    isplitl [W1]; · iexact W1
    iexact W2
  iintro ⟨HO, D2, D3, L1, L2, L3, W1, W2⟩
  try dsimp only
  rw [run_bind]
  iapply (part7 m c h0 h1 h2 h3 h4) $$ [HO X4 X5 W3 W4 W5]
  · isplitr; · iexact Hl
    isplitl [HO]; · iexact HO
    isplitl [X4]; · iexact X4
    isplitl [X5]; · iexact X5
    isplitl [W3]; · iexact W3
    isplitl [W4]; · iexact W4
    iexact W5
  iintro ⟨HO, D4, D5, L4, L5, W3, W4, W5⟩
  try dsimp only
  rw [run_bind]
  iapply (part8 m c h0 h1 h2 h3 h4) $$ [HO X6 X7 W6 W7 HT]
  · isplitr; · iexact Hl
    isplitl [HO]; · iexact HO
    isplitl [X6]; · iexact X6
    isplitl [X7]; · iexact X7
    isplitl [W6]; · iexact W6
    isplitl [W7]; · iexact W7
    iexact HT
  iintro ⟨HO, D6, D7, L6, L7, W6, W7, HT⟩
  try dsimp only
  ihave HT := (share_out m c) $$ HT
  unfold shared
  rw [seven]
  icases HT with ⟨⟨T1, T2, T3, T4, T5, T6, T7⟩, HT⟩
  ihave S1 := (send_ready m c 1) $$ [T1 S1]
  · isplitl [T1] <;> iassumption
  ihave S2 := (send_ready m c 2) $$ [T2 S2]
  · isplitl [T2] <;> iassumption
  ihave S3 := (send_ready m c 3) $$ [T3 S3]
  · isplitl [T3] <;> iassumption
  ihave S4 := (send_ready m c 4) $$ [T4 S4]
  · isplitl [T4] <;> iassumption
  ihave S5 := (send_ready m c 5) $$ [T5 S5]
  · isplitl [T5] <;> iassumption
  ihave S6 := (send_ready m c 6) $$ [T6 S6]
  · isplitl [T6] <;> iassumption
  ihave S7 := (send_ready m c 7) $$ [T7 S7]
  · isplitl [T7] <;> iassumption
  rw [run_bind]
  iapply (part9 m K c h0 h1 h2 h3 h4) $$ [Hc Hb HO S1]
  · isplitr; · iexact HR
    isplitr; · iexact Hl
    isplitl [Hc]; · iexact Hc
    isplitl [Hb]; · iexact Hb
    isplitl [HO]; · iexact HO
    iexact S1
  iintro %e1 %e2 ⟨HO, Hz, S1, P2, P3, P4, P5, P6, P7⟩
  try dsimp only
  rw [run_bind]
  iapply (part10 m K c h0 h1 h2 h3 h4 e2) $$ [HO S2 S3 P2 P3]
  · isplitr; · iexact HR
    isplitl [HO]; · iexact HO
    isplitl [S2]; · iexact S2
    isplitl [S3]; · iexact S3
    isplitl [P2]; · iexact P2
    iexact P3
  iintro %f1 %f2 ⟨HO, S2, S3⟩
  try dsimp only
  rw [run_bind]
  iapply (part11 m K c h0 h1 h2 h3 h4 f2) $$ [HO S4 P4]
  · isplitr; · iexact HR
    isplitl [HO]; · iexact HO
    isplitl [S4]; · iexact S4
    iexact P4
  iintro %g1 %g2 %g3 ⟨HO, S4⟩
  try dsimp only
  rw [run_bind]
  iapply (part12 m K c h0 h1 h2 h3 h4 g2 g3) $$ [HO S5 S6 P5 P6]
  · isplitr; · iexact HR
    isplitl [HO]; · iexact HO
    isplitl [S5]; · iexact S5
    isplitl [S6]; · iexact S6
    isplitl [P5]; · iexact P5
    iexact P6
  iintro %i1 %i2 %i3 %i4 ⟨HO, S5, S6⟩
  try dsimp only
  rw [run_bind]
  iapply (part13 m K c h0 h1 h2 h3 h4 e1 i2 i3 i4) $$ [HO S7 P7 S1]
  · isplitr; · iexact HR
    isplitl [HO]; · iexact HO
    isplitl [S7]; · iexact S7
    isplitl [P7]; · iexact P7
    iexact S1
  iintro %j1 ⟨HO, S1, S7⟩
  try dsimp only
  rw [run_bind]
  iapply (part14 m K c h0 h1 h2 h3 h4 e2) $$ [HO A1 S2 A2 S3]
  · isplitr; · iexact HR
    isplitl [HO]; · iexact HO
    isplitl [A1]; · iexact A1
    isplitl [S2]; · iexact S2
    isplitl [A2]; · iexact A2
    iexact S3
  iintro ⟨HO, A1, S2, A2, S3⟩
  try dsimp only
  rw [run_bind]
  iapply (part15 m K c h0 h1 h2 h3 h4 f1 g1) $$ [HO A3 S4 A4]
  · isplitr; · iexact HR
    isplitl [HO]; · iexact HO
    isplitl [A3]; · iexact A3
    isplitl [S4]; · iexact S4
    iexact A4
  iintro ⟨HO, A3, S4, A4⟩
  try dsimp only
  rw [run_bind]
  iapply (part16 m K c h0 h1 h2 h3 h4 g2 i1) $$ [HO S5 A5 S6]
  · isplitr; · iexact HR
    isplitl [HO]; · iexact HO
    isplitl [S5]; · iexact S5
    isplitl [A5]; · iexact A5
    iexact S6
  iintro ⟨HO, S5, A5, S6⟩
  try dsimp only
  rw [run_bind]
  iapply (part17 m K c h0 h1 h2 h3 h4 j1) $$ [HO A6 S7 A7 A1 A2]
  · isplitr; · iexact HR
    isplitl [HO]; · iexact HO
    isplitl [A6]; · iexact A6
    isplitl [S7]; · iexact S7
    isplitl [A7]; · iexact A7
    isplitl [A1]; · iexact A1
    iexact A2
  iintro ⟨HO, A6, S7, A7, A1, A2⟩
  try dsimp only
  rw [run_bind]
  iapply (part18 m c h0 h1 h2 h3 h4) $$ [A3 A4 A5 A6 A7]
  · isplitl [A3]; · iexact A3
    isplitl [A4]; · iexact A4
    isplitl [A5]; · iexact A5
    isplitl [A6]; · iexact A6
    iexact A7
  iintro ⟨A3, A4, A5, A6, A7⟩
  try dsimp only
  rw [run_bind]
  iapply (part19 m c h0 h1 h2 h3 h4) $$ [W0 W1 W2 O0 O1]
  · isplitl [W0]; · iexact W0
    isplitl [W1]; · iexact W1
    isplitl [W2]; · iexact W2
    isplitl [O0]; · iexact O0
    iexact O1
  iintro ⟨W0, W1, W2⟩
  try dsimp only
  rw [run_bind]
  iapply (part20 m c h0 h1 h2 h3 h4) $$ [W2 W3 W4 W5 O2 O3 O4]
  · isplitl [W2]; · iexact W2
    isplitl [W3]; · iexact W3
    isplitl [W4]; · iexact W4
    isplitl [W5]; · iexact W5
    isplitl [O2]; · iexact O2
    isplitl [O3]; · iexact O3
    iexact O4
  iintro ⟨W2, W3, W4, W5⟩
  try dsimp only
  rw [run_bind]
  iapply (part21 m c h0 h1 h2 h3 h4) $$ [W5 W6 W7 O5 O6]
  · isplitl [W5]; · iexact W5
    isplitl [W6]; · iexact W6
    isplitl [W7]; · iexact W7
    isplitl [O5]; · iexact O5
    iexact O6
  iintro ⟨W5, W6, W7⟩
  try dsimp only
  rw [run_bind]
  iapply (part22 m c h0 h1 h2 h3 h4) $$ [HO W7 O7 W0 W1 W2 W3 W4]
  · isplitl [HO]; · iexact HO
    isplitl [W7]; · iexact W7
    isplitl [O7]; · iexact O7
    isplitl [W0]; · iexact W0
    isplitl [W1]; · iexact W1
    isplitl [W2]; · iexact W2
    isplitl [W3]; · iexact W3
    iexact W4
  iintro ⟨HO, W7, W0, W1, W2, W3, W4⟩
  try dsimp only
  simp only [Prog.lift, Prog.bind_op, Prog.bind_ret, Prog.pure_eq_ret]
  iapply (out_wait m c 5) $$ [HO W5]
  · isplitl [HO] <;> iassumption
  iintro ⟨HO, W5⟩
  iapply (out_wait m c 6) $$ [HO W6]
  · isplitl [HO] <;> iassumption
  iintro ⟨HO, W6⟩
  iapply (out_wait m c 7) $$ [HO W7]
  · isplitl [HO] <;> iassumption
  iintro ⟨HO, W7⟩
  iapply (run_ret c)
  unfold gone
  icases S1 with ⟨S1, T1⟩
  icases S2 with ⟨S2, T2⟩
  icases S3 with ⟨S3, T3⟩
  icases S4 with ⟨S4, T4⟩
  icases S5 with ⟨S5, T5⟩
  icases S6 with ⟨S6, T6⟩
  icases S7 with ⟨S7, T7⟩
  ihave HT := (share_back m c) $$ [T1 T2 T3 T4 T5 T6 T7 HT]
  · unfold shared; rw [seven]
    isplitr [HT]
    · isplitl [T1]; · iexact T1
      isplitl [T2]; · iexact T2
      isplitl [T3]; · iexact T3
      isplitl [T4]; · iexact T4
      isplitl [T5]; · iexact T5
      isplitl [T6]; · iexact T6
      iexact T7
    iexact HT
  iapply Hk
  isplitl [HO]; · iexact HO
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [L0 L1 L2 L3 L4 L5 L6 L7]
  · isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [HT]; · iexact HT
  isplitl [Hz]; · iexact Hz
  isplitl [S1 S2 S3 S4 S5 S6 S7]
  · isplitl [S1]; · iexact S1
    isplitl [S2]; · iexact S2
    isplitl [S3]; · iexact S3
    isplitl [S4]; · iexact S4
    isplitl [S5]; · iexact S5
    isplitl [S6]; · iexact S6
    iexact S7
  isplitl [A1]; · iexact A1
  isplitl [A2]; · iexact A2
  isplitl [A3]; · iexact A3
  isplitl [A4]; · iexact A4
  isplitl [A5]; · iexact A5
  isplitl [A6]; · iexact A6
  iexact A7

end

end Cert.Scan

end
-- ==== Proof.Pieces.lean ====
/-
# Whole buffers and their pieces
-/
module

public import proofs.«01_k».proof.Proof.Body

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pieces tile the buffers -/

theorem chunk_mem {k : Fin 8} {i : S2048x1024.Idx} : i ∈ (chunkR k).set ↔ chunkOf i = k := by
  rw [Rect.mem_set_unit]
  constructor
  · intro h
    have h0 := h 0
    have h1 : 256 * k.val ≤ (i 0).val ∧ (i 0).val < 256 * k.val + 256 := h0
    apply Fin.ext
    show (i 0).val / 256 = k.val
    omega
  · rintro rfl a
    match a with
    | ⟨0, _⟩ =>
      show 256 * ((i 0).val / 256) ≤ (i 0).val ∧ (i 0).val < 256 * ((i 0).val / 256) + 256
      omega
    | ⟨1, _⟩ =>
      show 0 ≤ (i 1).val ∧ (i 1).val < 0 + 1024
      have : (i 1).val < 1024 := (i 1).isLt
      omega

theorem chunks_disjoint (k k' : Fin 8) (h : k ≠ k') : Disjoint (chunkR k).set (chunkR k').set :=
  Finset.disjoint_left.mpr fun i hi hi' => h (by rw [← chunk_mem.mp hi, ← chunk_mem.mp hi'])
theorem chunks_cover : (Finset.univ : Finset (Fin 8)).biUnion (fun k => (chunkR k).set) = Finset.univ :=
  Finset.eq_univ_iff_forall.mpr fun i => Finset.mem_biUnion.mpr ⟨chunkOf i, Finset.mem_univ _, chunk_mem.mpr rfl⟩

theorem slot_mem {o : Fin 8} {i : S8x1x1024.Idx} : i ∈ (slotR o).set ↔ i 0 = o := by
  rw [Rect.mem_set_unit]
  constructor
  · intro h
    have h0 := h 0
    have h1 : o.val ≤ (i 0).val ∧ (i 0).val < o.val + 1 := h0
    apply Fin.ext
    omega
  · rintro rfl a
    match a with
    | ⟨0, _⟩ =>
      show (i 0).val ≤ (i 0).val ∧ (i 0).val < (i 0).val + 1
      omega
    | ⟨1, _⟩ =>
      show 0 ≤ (i 1).val ∧ (i 1).val < 0 + 1
      have : (i 1).val < 1 := (i 1).isLt
      omega
    | ⟨2, _⟩ =>
      show 0 ≤ (i 2).val ∧ (i 2).val < 0 + 1024
      have : (i 2).val < 1024 := (i 2).isLt
      omega

theorem slots_disjoint (o o' : Fin 8) (h : o ≠ o') : Disjoint (slotR o).set (slotR o').set :=
  Finset.disjoint_left.mpr fun i hi hi' => h (by rw [← slot_mem.mp hi, ← slot_mem.mp hi'])
theorem slots_cover : (Finset.univ : Finset (Fin 8)).biUnion (fun o => (slotR o).set) = Finset.univ :=
  Finset.eq_univ_iff_forall.mpr fun i => Finset.mem_biUnion.mpr ⟨i 0, Finset.mem_univ _, slot_mem.mpr rfl⟩

section
variable (c : Dev nD)

/-! ## A block of 2048 rows, chunk by chunk -/

theorem rows_split {sp : Space} {e : EltTy} (M : Memref sig .tc sp S2048x1024 e) (X : S2048x1024.Idx → Elt F e) :
    (owns (c : Thread nD τ) M fullShare X : sProp 𝕄)
      ⊢ bigSep Finset.univ fun k => owns (c : Thread nD τ) (M.slice (chunkR k) (fun _ => rfl)) fullShare (fun j => X ((chunkR k).emb j)) :=
  owns_rects (c : Thread nD τ) M fullShare chunkR (fun _ _ => rfl) chunks_disjoint chunks_cover X

theorem rows_join {sp : Space} {e : EltTy} (M : Memref sig .tc sp S2048x1024 e) (X : S2048x1024.Idx → Elt F e) :
    (bigSep Finset.univ fun k => owns (c : Thread nD τ) (M.slice (chunkR k) (fun _ => rfl)) fullShare (fun j => X ((chunkR k).emb j)))
      ⊢ (owns (c : Thread nD τ) M fullShare X : sProp 𝕄) :=
  owns_of_rects (c : Thread nD τ) M fullShare chunkR (fun _ _ => rfl) chunks_disjoint chunks_cover X

/-- Chunks of whatever contents make a block. -/
theorem rows_any {sp : Space} {e : EltTy} (M : Memref sig .tc sp S2048x1024 e) (Y : Fin 8 → S256x1024.Idx → Elt F e) :
    (bigSep Finset.univ fun k => owns (c : Thread nD τ) (M.slice (chunkR k) (fun _ => rfl)) fullShare (Y k))
      ⊢ (owns (c : Thread nD τ) M fullShare (fun i => Y (chunkOf i) (placeOf i)) : sProp 𝕄) := by
  refine (Entails.of_eq (bigSep_congr fun k _ => ?_)).trans (rows_join c M _)
  congr 1
  funext j
  rw [chunkOf_emb, placeOf_emb]

theorem arg_split : (((c : Thread nD τ).loc main_arg0) ↦{fullShare} (m ((c : Thread nD τ).loc main_arg0)) : sProp 𝕄)
    ⊢ bigSep Finset.univ fun k => owns (c : Thread nD τ) (xC k) fullShare (chunksAt m c k) := by
  refine (Entails.of_eq ?_).trans (rows_split c xM (argAt m c))
  rw [owns_whole]

theorem arg_join : (bigSep Finset.univ fun k => owns (c : Thread nD τ) (xC k) fullShare (chunksAt m c k) : sProp 𝕄)
    ⊢ ((c : Thread nD τ).loc main_arg0) ↦{fullShare} (m ((c : Thread nD τ).loc main_arg0)) := by
  refine (rows_join c xM (argAt m c)).trans (Entails.of_eq ?_)
  rw [owns_whole]

theorem copy_split (f : Buf (Elt F) ((c : Thread nD τ).loc cc0_scratch0)) :
    (((c : Thread nD τ).loc cc0_scratch0) ↦{fullShare} f : sProp 𝕄) ⊢ bigSep Finset.univ fun k => anyAt c (vC k) := by
  rw [← owns_whole]
  exact (rows_split c vM f).trans (bigSep_mono fun k _ => any_intro c)
theorem sums_split (f : Buf (Elt F) ((c : Thread nD τ).loc cc0_scratch1)) :
    (((c : Thread nD τ).loc cc0_scratch1) ↦{fullShare} f : sProp 𝕄) ⊢ bigSep Finset.univ fun k => anyAt c (wC k) := by
  rw [← owns_whole]
  exact (rows_split c wM f).trans (bigSep_mono fun k _ => any_intro c)
theorem result_split (f : Buf (Elt F) ((c : Thread nD τ).loc main_v1)) :
    (((c : Thread nD τ).loc main_v1) ↦{fullShare} f : sProp 𝕄) ⊢ bigSep Finset.univ fun k => anyAt c (oC k) := by
  rw [← owns_whole]
  exact (rows_split c oM f).trans (bigSep_mono fun k _ => any_intro c)

theorem copy_join : (bigSep Finset.univ (landed m c) : sProp 𝕄) ⊢ iprop(∃ f, ((c : Thread nD τ).loc cc0_scratch0) ↦{fullShare} f) := by
  unfold landed
  refine (rows_any c vM (chunksAt m c)).trans ?_
  rw [owns_whole]
  iintro H; iexists _; iexact H
theorem sums_join : (bigSep Finset.univ (finished m c) : sProp 𝕄) ⊢ iprop(∃ f, ((c : Thread nD τ).loc cc0_scratch1) ↦{fullShare} f) := by
  unfold finished
  refine (rows_any c wM (finalAt m c)).trans ?_
  rw [owns_whole]
  iintro H; iexists _; iexact H
theorem result_join : (bigSep Finset.univ fun k => owns (c : Thread nD τ) (oC k) fullShare (finalAt m c k) : sProp 𝕄)
    ⊢ ((c : Thread nD τ).loc main_v1) ↦{fullShare} (outAt m c) := by
  refine (rows_any c oM (finalAt m c)).trans (Entails.of_eq ?_)
  rw [owns_whole]; rfl

/-! ## The table of totals, slot by slot -/

/-- The place in its slot of an entry of the table. -/
def slotPlace (i : S8x1x1024.Idx) : S1x1x1024.Idx := fun
  | ⟨0, _⟩ => ⟨0, Nat.one_pos⟩
  | ⟨1, _⟩ => ⟨(i 1).val, (i 1).isLt⟩
  | ⟨2, _⟩ => ⟨(i 2).val, (i 2).isLt⟩

theorem slot_emb (o : Fin 8) (j : S1x1x1024.Idx) : ((slotR o).emb j) 0 = o := slot_mem.mp (LoadRect.idx_mem _ _)

theorem slotPlace_emb (o : Fin 8) (j : S1x1x1024.Idx) : slotPlace ((slotR o).emb j) = j := by
  funext a
  match a with
  | ⟨0, _⟩ =>
    apply Fin.ext
    show 0 = (j 0).val
    have : (j 0).val < 1 := (j 0).isLt
    omega
  | ⟨1, _⟩ =>
    apply Fin.ext
    show 0 + 1 * (j 1).val = (j 1).val
    omega
  | ⟨2, _⟩ =>
    apply Fin.ext
    show 0 + 1 * (j 2).val = (j 2).val
    omega

theorem table_split (f : Buf (Elt F) ((c : Thread nD τ).loc cc0_scratch2)) :
    (((c : Thread nD τ).loc cc0_scratch2) ↦{fullShare} f : sProp 𝕄) ⊢ iprop(anyAt c (tC 0) ∗ bigSep others fun o => anyAt c (tC (opp o))) := by
  rw [← owns_whole]
  refine ((owns_rects (c : Thread nD τ) tM fullShare slotR (fun _ _ => rfl) slots_disjoint slots_cover f).trans
    (bigSep_mono fun o _ => any_intro c)).trans ?_
  rw [eight, seven]
  show _ ⊢ iprop(anyAt c (tC 0) ∗ anyAt c (tC 7) ∗ anyAt c (tC 6) ∗ anyAt c (tC 5) ∗ anyAt c (tC 4) ∗ anyAt c (tC 3) ∗ anyAt c (tC 2) ∗ anyAt c (tC 1))
  iintro ⟨H0, H1, H2, H3, H4, H5, H6, H7⟩
  isplitl [H0]; · iexact H0
  isplitl [H7]; · iexact H7
  isplitl [H6]; · iexact H6
  isplitl [H5]; · iexact H5
  isplitl [H4]; · iexact H4
  isplitl [H3]; · iexact H3
  isplitl [H2]; · iexact H2
  iexact H1

theorem table_join (Y : Fin 8 → S1x1x1024.Idx → Elt F .f32) :
    (bigSep Finset.univ fun o => owns (c : Thread nD τ) (tC o) fullShare (Y o) : sProp 𝕄)
      ⊢ iprop(∃ f, ((c : Thread nD τ).loc cc0_scratch2) ↦{fullShare} f) := by
  refine ((Entails.of_eq (bigSep_congr fun o _ => ?_)).trans (owns_of_rects (c : Thread nD τ) tM fullShare slotR (fun _ _ => rfl)
    slots_disjoint slots_cover (fun i => Y (i 0) (slotPlace i)))).trans ?_
  · congr 1
    funext j
    rw [slotPlace_emb, slot_emb]
  rw [owns_whole]
  iintro H; iexists _; iexact H

end

end Cert.Scan

end
-- ==== Proof.Ghost.lean ====
/-
# What the launch deals out

The devices' cells, their invariants, and the duty tokens: every device's own tokens go to the devices that pay them.
-/
module

public import proofs.«01_k».proof.Proof.Pieces

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of a device -/

theorem sep_regroup (P Q R : sProp 𝕄) : iprop((P ∗ Q) ∗ R) = iprop(P ∗ Q ∗ R) := BI.equiv_iff.mp ⟨BI.sep_assoc, BI.sep_assoc'⟩

theorem cells_ix (Φ : CellIx → sProp 𝕄) : bigSep Finset.univ Φ
    = iprop(Φ none ∗ (bigSep Finset.univ fun o => Φ (some (false, o))) ∗ bigSep Finset.univ fun o => Φ (some (true, o))) := by
  rw [bigSep_univ_eq_bigSepL ([none] ++ (List.finRange 8).map (fun o => some (false, o)) ++ (List.finRange 8).map (fun o => some (true, o)))
    (by decide) (by decide) Φ, eight, eight]
  simp only [sep_regroup]
  rfl

theorem csem_injective : Function.Injective csem := by decide

theorem kcell_injective : Function.Injective (kcell : Dev nD × CellIx → GSem nD τ sig) := by
  rintro ⟨c, k⟩ ⟨c', k'⟩ h
  have h1 : c = c' := congrArg (fun g : GSem nD τ sig => g.1.1) h
  have h2 : csem k = csem k' := congrArg Prod.snd h
  rw [h1, csem_injective h2]

def ringCells : Finset (GSem nD τ sig) := Finset.univ.map ⟨kcell, kcell_injective⟩

/-- The duty tokens of a device's own cells: of its barrier, of its departures, of its arrivals. -/
def tokIx : Fin 3 × Fin 8 → SemLoc sig × Fin 8
  | (0, o) => (.reg barS, o)
  | (1, o) => (.dma (sendS o), 0)
  | (2, o) => (.dma (recvS o), 0)
theorem tokIx_injective : Function.Injective tokIx := by decide
abbrev tokOf (cj : Dev nD × Fin 3 × Fin 8) : GSem nD τ sig × ℕ × Fin 8 :=
  (((cj.1 : Thread nD τ), (tokIx cj.2).1), 0, (tokIx cj.2).2)
theorem tokOf_injective : Function.Injective tokOf := by
  rintro ⟨c, j⟩ ⟨c', j'⟩ h
  have h1 : c = c' := congrArg (fun x : GSem nD τ sig × ℕ × Fin 8 => x.1.1.1) h
  have h2 : tokIx j = tokIx j' := Prod.ext (congrArg (fun x : GSem nD τ sig × ℕ × Fin 8 => x.1.2) h) (congrArg (fun x : GSem nD τ sig × ℕ × Fin 8 => x.2.2) h)
  rw [h1, tokIx_injective h2]
def ringToks : Finset (GSem nD τ sig × ℕ × Fin 8) := Finset.univ.map ⟨tokOf, tokOf_injective⟩

/-- The launch's user element: the pipeline's, the cells', no counters. -/
def u₀ : UU := (initOf (Pipeline.cells cfgs cellOf_inj) (Pipeline.launchToks cfgs cellOf_inj), (initOf ringCells ringToks, 1))

def toks (c : Dev nD) : sProp 𝕄 :=
  iprop((bigSep Finset.univ fun o => dutyTok ER (barCell c) 0 o) ∗ (bigSep Finset.univ fun o => dutyTok ER (sendCell c o) 0 0)
    ∗ bigSep Finset.univ fun o => dutyTok ER (recvCell c o) 0 0)

/-- What the launch element deals device `c`. -/
def G (c : Dev nD) : sProp 𝕄 :=
  iprop((bigSep Finset.univ fun k : CellIx => roundState ER (ringRd m) (kcell (c, k)) 0)
    ∗ (bigSep Finset.univ fun k : CellIx => iprop(atPos ER (kcell (c, k)) 0 ∅ 0 ∗ reached ER (kcell (c, k)) 0)) ∗ toks c)

theorem three (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, three]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

/-- The kernel's own semaphores, in their order. -/
def osem (k : Fin 32) : SemLoc sig := .dma ⟨k.val, k.isLt⟩
theorem ownSemFacts : Pipeline.OwnSemFacts cfg0.spec osem := by decide

abbrev own0 (c : Dev nD) : sProp 𝕄 :=
  Pipeline.ownSems0 (Ix := Unit) (Name := ℕ) (U := UU) (Lvl := ℕ) (Val := Elt F) (τ := τ) osem c

theorem own0_eq (c : Dev nD) : (own0 c : sProp 𝕄)
    = iprop((bigSep Finset.univ fun k => semVal ((c : Thread nD τ), .dma (inS k)) 0) ∗ (bigSep Finset.univ fun k => semVal ((c : Thread nD τ), .dma (outS k)) 0)
      ∗ (bigSep Finset.univ fun o => semVal (sendCell c o) 0) ∗ bigSep Finset.univ fun o => semVal (recvCell c o) 0) := by
  unfold own0
  rw [Pipeline.ownSems0_eq_of_list c osem (List.finRange 32) (by decide) (by decide), eight, eight, eight, eight]
  simp only [sep_regroup]
  rfl

theorem unscoped0_eq (c : Dev nD) : (unscopedSems0 c : sProp 𝕄) = semVal (barCell c) 0 := by
  unfold unscopedSems0; rw [bigSep_eq_bigSepL_of_eq [SemLoc.reg barS] (by decide) (by decide)]; rfl

/-- The semaphores of the copies within the device. -/
def copySems (c : Dev nD) : sProp 𝕄 :=
  iprop((bigSep Finset.univ fun k => semVal ((c : Thread nD τ), .dma (inS k)) 0) ∗ bigSep Finset.univ fun k => semVal ((c : Thread nD τ), .dma (outS k)) 0)

theorem cell_sems (c : Dev nD) : (bigSep Finset.univ fun k : CellIx => (semVal (kcell (c, k)) 0 : sProp 𝕄))
    = iprop(semVal (barCell c) 0 ∗ (bigSep Finset.univ fun o => semVal (sendCell c o) 0) ∗ bigSep Finset.univ fun o => semVal (recvCell c o) 0) :=
  cells_ix _

theorem sems_split (c : Dev nD) : iprop(own0 c ∗ unscopedSems0 c)
    ⊢ (iprop(copySems c ∗ bigSep Finset.univ fun k : CellIx => semVal (kcell (c, k)) 0) : sProp 𝕄) := by
  rw [own0_eq, unscoped0_eq, cell_sems]
  unfold copySems
  iintro ⟨⟨HI, HO, HS, HV⟩, HB⟩
  isplitl [HI HO]
  · isplitl [HI] <;> iassumption
  isplitl [HB]; · iexact HB
  isplitl [HS] <;> iassumption

/-! ## The invariants -/

/-- Device `c`'s share once its cells' invariants stand. -/
def founded (c : Dev nD) : sProp 𝕄 :=
  iprop((bigSep Finset.univ fun k : CellIx => iprop(∃ κ : ℕ, cellInv ER (ringRd m) κ (kcell (c, k))))
    ∗ (bigSep Finset.univ fun k : CellIx => iprop(atPos ER (kcell (c, k)) 0 ∅ 0 ∗ reached ER (kcell (c, k)) 0)) ∗ toks c ∗ copySems c)

theorem core_alloc (c : Dev nD) : iprop(own0 c ∗ unscopedSems0 c ∗ G m c) ⊢ |={Set.univ}=> founded m c := by
  unfold G founded
  iintro ⟨Hos, Hus, Hst, Hat, Htok⟩
  ihave Hv := (sems_split (F := F) c) $$ [Hos Hus]
  · isplitl [Hos] <;> iassumption
  icases Hv with ⟨Hcs, Hv⟩
  imod (show iprop((bigSep Finset.univ fun k : CellIx => semVal (kcell (c, k)) 0) ∗ bigSep Finset.univ fun k : CellIx => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens, dealt around -/

/-- The tokens of the duties device `c` pays. -/
def payToks (c : Dev nD) : sProp 𝕄 :=
  iprop((bigSep Finset.univ fun o => dutyTok ER (barCell (fwd c o)) 0 o) ∗ (bigSep Finset.univ fun o => dutyTok ER (sendCell c o) 0 0)
    ∗ bigSep Finset.univ fun o => dutyTok ER (recvCell (fwd c o) o) 0 0)

/-- For each offset, one turn around the devices. -/
def turns : Dev nD × Fin 8 ≃ Dev nD × Fin 8 :=
  ⟨fun p => (fwd p.1 p.2, p.2), fun p => (bwd p.1 p.2, p.2), fun p => Prod.ext (bwd_fwd _ _) rfl, fun p => Prod.ext (fwd_bwd _ _) rfl⟩

theorem turn (Φ : Dev nD → Fin 8 → sProp 𝕄) : (bigSep Finset.univ fun c => bigSep Finset.univ fun o => Φ c o)
    = bigSep Finset.univ fun c => bigSep Finset.univ fun o => Φ (fwd c o) o := by
  rw [← bigSep_univ_prod (fun p : Dev nD × Fin 8 => Φ p.1 p.2), bigSep_univ_equiv turns, bigSep_univ_prod]
  rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep', turn (fun c o => dutyTok ER (barCell c) 0 o), turn (fun c o => dutyTok ER (recvCell c o) 0 0)]

/-- A device's places at its own cells. -/
def places (c : Dev nD) : sProp 𝕄 :=
  iprop(atPos ER (barCell c) 0 ∅ 0 ∗ (bigSep Finset.univ fun o => atPos ER (sendCell c o) 0 ∅ 0) ∗ bigSep Finset.univ fun o => atPos ER (recvCell c o) 0 ∅ 0)
theorem places_eq (c : Dev nD) : (bigSep Finset.univ fun k : CellIx => (atPos ER (kcell (c, k)) 0 ∅ 0 : sProp 𝕄)) = places c := cells_ix _

/-- What stays with device `c`: its places, the tokens it pays with, the semaphores of its own copies. -/
def linear (c : Dev nD) : sProp 𝕄 :=
  iprop(places c ∗ payToks c ∗ copySems c)
/-- What the global step makes of the launch's shares. -/
def G' (c : Dev nD) : sProp 𝕄 := iprop(∃ K, records m K ∗ linear c)

theorem with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ (founded m) : sProp 𝕄) ⊢ bigSep Finset.univ (G' m) := by
  unfold founded
  rw [bigSep_sep', bigSep_sep', bigSep_sep', ← bigSep_univ_prod (fun ck : Dev nD × CellIx => iprop(∃ κ : ℕ, cellInv ER (ringRd m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok, Hcs⟩
  ihave HK := (BI.bigSep_exists_pi Finset.univ (fun (ck : Dev nD × CellIx) (κ : ℕ) => (cellInv ER (ringRd m) κ (kcell ck) : sProp 𝕄))) $$ HI
  icases HK with ⟨%K, #HI⟩
  ihave Htk := (toks_around (F := F)) $$ Htok
  iapply (with_persistent (R := records m K) fun c _ => (show iprop(records m K ∗ linear c) ⊢ G' m c from by
    unfold G'; iintro H; iexists K; iexact H))
  isplitr
  · unfold records; isplitl; · iexact HI
    iexact HR
  · unfold linear
    rw [bigSep_sep', bigSep_sep', ← bigSep_congr (s := Finset.univ) (fun (c : Dev nD) _ => places_eq (F := F) c)]
    isplitl [Hat]; · iexact Hat
    isplitl [Htk] <;> iassumption

/-- Every device's semaphores and shares at once. -/
theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

end Cert.Scan

end
-- ==== Proof.Credit.lean ====
/-
# The credit the launch gives

What all devices owe a cell at the start is what its owner may wait for.
-/
module

public import proofs.«01_k».proof.Proof.Ghost

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem bar_eq_iff {a b : Dev nD} : barCell a = barCell b ↔ a = b :=
  ⟨fun h => congrArg (fun g : GSem nD τ sig => g.1.1) h, fun h => h ▸ rfl⟩
theorem recvS_injective : Function.Injective recvS := by decide
theorem recv_eq_iff {a b : Dev nD} {o p : Fin 8} : recvCell a o = recvCell b p ↔ a = b ∧ o = p :=
  ⟨fun h => ⟨congrArg (fun g : GSem nD τ sig => g.1.1) h, recvS_injective (SemLoc.dma.inj (congrArg Prod.snd h))⟩, fun ⟨h, h'⟩ => h ▸ h' ▸ rfl⟩
theorem recv_ne_bar (a b : Dev nD) (o : Fin 8) : recvCell a o ≠ barCell b := fun h => by cases congrArg Prod.snd h

theorem list_sum_at (l : List (Fin 8)) (t : Fin 8 → CellTallies nD τ sig Unit) (g : GSem nD τ sig) :
    (l.map t).sum g () = (l.map fun o => t o g ()).sum := by
  induction l with
  | nil => rfl
  | cons o l ih => rw [List.map_cons, List.sum_cons, Pi.add_apply, Finsupp.add_apply, ih, List.map_cons, List.sum_cons]

theorem owed_bar (d c : Dev nD) : O₀ d (barCell c) () = (offs.map fun o => if c = fwd d o then 1 else 0).sum := by
  unfold O₀ owR owB
  rw [Pi.add_apply, Finsupp.add_apply, list_sum_at, list_sum_at]
  simp only [tallyAt_apply, bar_eq_iff, and_true, (recv_ne_bar _ _ _).symm, if_false]
  simp

theorem owed_recv (d c : Dev nD) (o : Fin 8) : O₀ d (recvCell c o) () = (offs.map fun p => if c = fwd d p ∧ o = p then N else 0).sum := by
  unfold O₀ owR owB
  rw [Pi.add_apply, Finsupp.add_apply, list_sum_at, list_sum_at]
  simp only [tallyAt_apply, recv_eq_iff, and_true, recv_ne_bar, if_false]
  simp

theorem owed_recv_eq (d c : Dev nD) (o : Fin 8) (ho : o ≠ 0) : O₀ d (recvCell c o) () = if d = bwd c o then N else 0 := by
  rw [owed_recv]
  have hiff : ∀ p, c = fwd d p ↔ d = bwd c p := fun p => ⟨fun h => by rw [h, bwd_fwd], fun h => by rw [h, fwd_bwd]⟩
  simp only [hiff]
  unfold offs
  fin_cases o <;> first | exact absurd rfl ho | simp

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (o : Fin 8) (ho : o ≠ 0) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv_eq d c o ho,
    Finset.sum_ite_eq' Finset.univ (bwd c o) fun _ => N, if_pos (Finset.mem_univ _)]

/-- The semaphores of the arrivals from other devices. -/
def arrivals : Finset (SemLoc sig) := others.map ⟨fun o => .dma (recvS o), fun a b h => recvS_injective (SemLoc.dma.inj h)⟩

theorem creds (c : Dev nD) :
    (Pipeline.launchCred O₀ c : sProp 𝕄) ⊢ iprop(cred (tallyAt (barCell c) () 7) ∗ bigSep others fun o => cred (tallyAt (recvCell c o) () N)) := by
  unfold Pipeline.launchCred
  rw [bigSep_univ_at _ (SemLoc.reg barS), launch_bar]
  refine sep_mono_right ?_
  refine (BI.bigSep_subset (t := arrivals) fun s hs => ?_).trans ?_
  · obtain ⟨o, -, rfl⟩ := Finset.mem_map.mp hs
    exact Finset.mem_erase.mpr ⟨fun h => (by cases h), Finset.mem_univ _⟩
  unfold arrivals
  rw [bigSep_map]
  exact Entails.of_eq (bigSep_congr fun o ho => congrArg cred (launch_recv c o (Finset.ne_of_mem_erase ho)))

end Cert.Scan

end
-- ==== Proof.Run.lean ====
/-
# The run of the kernel

From any memory with zero counters, for any float values: every device's argument is kept and its result is `outAt`.
-/
module

public import proofs.«01_k».proof.Proof.Credit
public import proofs.«01_k».proof.Proof.Gen.KernelIdeal.Launch
public import proofs.«01_k».proof.Proof.Gen.KernelIdeal.Points
public import Idealize.ShloMosaic.Lib.Pipeline.Quiescent

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

section
variable (c : Dev nD)

/-- What device `c` holds at the start, its scoped buffers aside; -/
def start : sProp 𝕄 :=
  iprop(G' m c ∗ levAts L lv ∗ cred (tallyAt (barCell c) () 7) ∗ (bigSep others fun o => cred (tallyAt (recvCell c o) () N))
    ∗ (((c : Thread nD τ).loc main_arg0) ↦{fullShare} (m ((c : Thread nD τ).loc main_arg0)))
    ∗ (((c : Thread nD τ).loc main_v1) ↦{fullShare} (m ((c : Thread nD τ).loc main_v1))))

/-- its scoped buffers, whatever they hold; -/
def buffers : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- and its arrays at the end. -/
def results : sProp 𝕄 :=
  iprop((((c : Thread nD τ).loc main_arg0) ↦{fullShare} (m ((c : Thread nD τ).loc main_arg0)))
    ∗ (((c : Thread nD τ).loc main_v1) ↦{fullShare} (outAt m c)))

def Φ₀ : sProp 𝕄 := iprop(start m c ∗ buffers c)
def Φ₁ : sProp 𝕄 := iprop(results m c ∗ buffers c ∗ own0 c ∗ unscopedSems0 c)

/-- The two semaphores the kernel never uses. -/
def idle : sProp 𝕄 := iprop(semVal (sendCell c 0) 0 ∗ semVal (recvCell c 0) 0)

theorem but_first (Φ : Fin 8 → sProp 𝕄) : bigSep Finset.univ Φ = iprop(Φ 0 ∗ bigSep others Φ) := bigSep_univ_at Φ 0

/-! ## Into the body -/

theorem in_ready : iprop((bigSep Finset.univ fun k => owns (c : Thread nD τ) (xC k) fullShare (chunksAt m c k)) ∗ (bigSep Finset.univ fun k => anyAt c (vC k))
    ∗ bigSep Finset.univ fun k => semVal ((c : Thread nD τ), .dma (inS k)) 0) ⊢ (bigSep Finset.univ (inReady m c) : sProp 𝕄) := by
  rw [← bigSep_sep', ← bigSep_sep']
  exact Entails.of_eq (bigSep_congr fun k _ => rfl)

theorem out_ready : iprop((bigSep Finset.univ fun k => anyAt c (oC k)) ∗ bigSep Finset.univ fun k => semVal ((c : Thread nD τ), .dma (outS k)) 0)
    ⊢ (bigSep Finset.univ (outReady c) : sProp 𝕄) := by
  rw [← bigSep_sep']
  exact Entails.of_eq (bigSep_congr fun k _ => rfl)

theorem sig_ready : iprop((bigSep others fun o => dutyTok ER (barCell (fwd c o)) 0 o) ∗ bigSep others fun o => anyAt c (tC (opp o)))
    ⊢ (bigSep others (sigReady c) : sProp 𝕄) := by
  rw [← bigSep_sep']
  exact Entails.of_eq (bigSep_congr fun o _ => rfl)

theorem send_toks : iprop((bigSep others fun o => dutyTok ER (sendCell c o) 0 0) ∗ (bigSep others fun o => dutyTok ER (recvCell (fwd c o) o) 0 0)
    ∗ bigSep others fun o => atPos ER (sendCell c o) 0 ∅ 0) ⊢ (bigSep others (sendToks c) : sProp 𝕄) := by
  rw [← bigSep_sep', ← bigSep_sep']
  exact Entails.of_eq (bigSep_congr fun o _ => rfl)

theorem arrive_ready : iprop((bigSep others fun o => cred (tallyAt (recvCell c o) () N)) ∗ bigSep others fun o => atPos ER (recvCell c o) 0 ∅ 0)
    ⊢ (bigSep others (arriving c) : sProp 𝕄) := by
  rw [← bigSep_sep']
  exact Entails.of_eq (bigSep_congr fun o _ => rfl)

theorem enter : iprop(Φ₀ m c ∗ owing c offs) ⊢ (|={Set.univ}=> iprop(∃ K, bodyIn m K c ∗ idle c) : sProp 𝕄) := by
  unfold Φ₀ start buffers G' linear places payToks copySems
  simp only [but_first (fun o => dutyTok ER (barCell (fwd c o)) 0 o), but_first (fun o => dutyTok ER (sendCell c o) 0 0),
    but_first (fun o => dutyTok ER (recvCell (fwd c o) o) 0 0), but_first (fun o => atPos ER (sendCell c o) 0 ∅ 0), but_first (fun o => atPos ER (recvCell c o) 0 ∅ 0)]
  iintro ⟨⟨⟨⟨%K, #HR, ⟨HaB, ⟨HaS0, HaS⟩, HaV0, HaV⟩, ⟨⟨-, HtB⟩, ⟨-, HtS⟩, -, HtV⟩, Hin, Hout⟩, #Hl, Hcb, Hcr, Hx, Ho⟩, ⟨%f0, Hv⟩, ⟨%f1, Hw⟩, ⟨%f2, Ht⟩⟩, HO⟩
  imod (unused m K c) $$ [HaS0 HaV0] with Hz
  · isplitr; · iexact HR
    isplitl [HaS0] <;> iassumption
  imodintro
  iexists K
  isplitr [Hz]
  · unfold bodyIn
    ihave Hx := (arg_split m c) $$ Hx
    ihave Hv := (copy_split c f0) $$ Hv
    ihave Hw := (sums_split c f1) $$ Hw
    ihave Ho := (result_split c _) $$ Ho
    ihave Ht := (table_split c f2) $$ Ht
    icases Ht with ⟨Ht0, Ht⟩
    isplitr; · iexact HR
    isplitr; · iexact Hl
    isplitl [HO]; · iexact HO
    isplitl [Hx Hv Hin]
    · iapply (in_ready m c)
      isplitl [Hx]; · iexact Hx
      isplitl [Hv] <;> iassumption
    isplitl [Hw]; · iexact Hw
    isplitl [Ho Hout]
    · iapply (out_ready c)
      isplitl [Ho] <;> iassumption
    isplitl [HtB Ht]
    · iapply (sig_ready c)
      isplitl [HtB] <;> iassumption
    isplitl [Ht0]; · iexact Ht0
    isplitl [Hcb]; · iexact Hcb
    isplitl [HaB]; · iexact HaB
    isplitl [HtS HtV HaS]
    · iapply (send_toks c)
      isplitl [HtS]; · iexact HtS
      isplitl [HtV] <;> iassumption
    iapply (arrive_ready c)
    isplitl [Hcr] <;> iassumption
  · unfold idle; iexact Hz

/-! ## Out of the body -/

/-- What device `c` finds in slot `o` of its table. -/
def found (o : Fin 8) : S1x1x1024.Idx → Elt F .f32 := if o = 0 then totAt m c else totAt m (bwd c o)

theorem table_back : iprop(owns (c : Thread nD τ) (tC 0) fullShare (totAt m c) ∗ bigSep others fun o => owns (c : Thread nD τ) (tC o) fullShare (totAt m (bwd c o)))
    ⊢ (iprop(∃ f : Buf (Elt F) ((c : Thread nD τ).loc cc0_scratch2), ((c : Thread nD τ).loc cc0_scratch2) ↦{fullShare} f) : sProp 𝕄) := by
  refine (Entails.of_eq ?_).trans (table_join c (found m c))
  rw [but_first]
  congr 1

theorem in_done : (bigSep Finset.univ (inDone m c) : sProp 𝕄) ⊢ iprop((bigSep Finset.univ fun k => owns (c : Thread nD τ) (xC k) fullShare (chunksAt m c k))
    ∗ bigSep Finset.univ fun k => semVal ((c : Thread nD τ), .dma (inS k)) 0) := by
  unfold inDone; rw [bigSep_sep']

theorem out_done : (bigSep Finset.univ (outDone m c) : sProp 𝕄) ⊢ iprop((bigSep Finset.univ (finished m c))
    ∗ (bigSep Finset.univ fun k => owns (c : Thread nD τ) (oC k) fullShare (finalAt m c k)) ∗ bigSep Finset.univ fun k => semVal ((c : Thread nD τ), .dma (outS k)) 0) := by
  unfold outDone; rw [bigSep_sep', bigSep_sep']

theorem all_come : (bigSep others (come m c) : sProp 𝕄) ⊢ iprop((bigSep others fun o => semVal (recvCell c o) 0)
    ∗ bigSep others fun o => owns (c : Thread nD τ) (tC o) fullShare (totAt m (bwd c o))) := by
  unfold come; rw [bigSep_sep']

theorem leave : iprop(bodyOut m c ∗ idle c) ⊢ (iprop(Φ₁ m c ∗ owesE c 0) : sProp 𝕄) := by
  unfold bodyOut idle Φ₁ results buffers
  rw [own0_eq, unscoped0_eq, but_first (fun o => semVal (sendCell c o) 0), but_first (fun o => semVal (recvCell c o) 0)]
  iintro ⟨⟨HO, Hin, Hl, Hout, Ht, HzB, HzS, Hcome⟩, Hz0, Hz1⟩
  ihave Hin := (in_done m c) $$ Hin; icases Hin with ⟨Hx, Hzi⟩
  ihave Hout := (out_done m c) $$ Hout; icases Hout with ⟨Hf, Ho, Hzo⟩
  ihave Hcome := (all_come m c) $$ Hcome; icases Hcome with ⟨HzV, Hs⟩
  isplitr [HO]
  · isplitl [Hx Ho]
    · isplitl [Hx]
      · iapply (arg_join m c) $$ Hx
      · iapply (result_join m c) $$ Ho
    isplitl [Hl Hf Ht Hs]
    · isplitl [Hl]; · iapply (copy_join m c) $$ Hl
      isplitl [Hf]; · iapply (sums_join m c) $$ Hf
      iapply (table_back m c)
      isplitl [Ht] <;> iassumption
    isplitr [HzB]
    · isplitl [Hzi]; · iexact Hzi
      isplitl [Hzo]; · iexact Hzo
      isplitl [Hz0 HzS]
      · isplitl [Hz0] <;> iassumption
      isplitl [Hz1] <;> iassumption
    iexact HzB
  iexact HO

end

/-! ## The pipeline of one point, with no windows -/

def dats (_ : Fin 1) (c : Dev nD) : Pipeline.Dat τ (Elt F) Unit ℕ UU ℕ cfg0 c where
  A w := Fin.elim0 w
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_obligation (c : Dev nD) : Pipeline.BodyObligation (dats (F := F) m 0 c) (defs₀ (F := F)) 𝒱₀ () Set.univ := fun t => by
  rw [fin_N0 t]
  have hW (Φ : Fin cfg0.W → sProp 𝕄) : bigSep Finset.univ Φ = BI.emp := by
    rw [show (Finset.univ : Finset (Fin cfg0.W)) = ∅ from rfl, BI.bigSep_empty]
  rw [hW, hW]
  show iprop(Φ₀ m c ∗ (dats m 0 c).owesAt () t0_0.castSucc ∗ BI.emp) ⊢ run c (bodyAt0 t0_0) (fun _ => iprop(Φ₁ m c ∗ (dats m 0 c).owesAt () t0_0.succ ∗ BI.emp))
  unfold Pipeline.Dat.owesAt Pipeline.owesWithin
  rw [show (dats m 0 c).owed t0_0.castSucc = owR c offs + owB c offs from rfl, show (dats m 0 c).owed t0_0.succ = 0 from rfl]
  iintro ⟨HΦ, ⟨%W, -, HO⟩, -⟩
  imod (enter m c) $$ [HΦ HO] with ⟨%K, Hin, Hz⟩
  · isplitl [HΦ]; · iexact HΦ
    unfold owing owesE; iexists W; iexact HO
  iapply (body m K c _ _ _ _ _) $$ Hin
  iintro Hout
  ihave H := (leave m c) $$ [Hout Hz]
  · isplitl [Hout] <;> iassumption
  icases H with ⟨HΦ, HO⟩
  unfold owesE
  icases HO with ⟨%W', HO⟩
  isplitl [HΦ]; · iexact HΦ
  isplitl [HO]
  · iexists W'
    isplitr; · ipureintro; exact fun _ _ => Or.inl trivial
    iexact HO
  · iempintro

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨⟨Hx, Ho⟩, Hlev, Hcr, -, HG⟩
  ihave Hc := (creds (F := F) c) $$ Hcr
  icases Hc with ⟨H1, HN⟩
  imodintro
  isplitl
  · isplitl [HG]; · iexact HG
    isplitl [Hlev]; · iexact Hlev
    isplitl [H1]; · iexact H1
    isplitl [HN]; · iexact HN
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ buffers
  iintro ⟨Hs, -, Hr⟩
  isplitl [Hs] <;> iassumption

theorem phi1_exit (c : Dev nD) :
    (dats m 0 c).Φ (Fin.last cfg0.N) ⊢ iprop((results m c ∗ unscopedSems0 c) ∗ own0 c ∗ Pipeline.scopedRest cfg0.spec c) := by
  rw [show (dats m 0 c).Φ (Fin.last cfg0.N) = Φ₁ m c from rfl, scopedRest0_eq]
  unfold Φ₁ buffers
  iintro ⟨Hr, Hs, Ho, Hu⟩
  isplitl [Hr Hu]
  · isplitl [Hr] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w => Fin.elim0 w

/-- What the run leaves on device `c`. -/
def QY (c : Dev nD) (s : MemSt nD τ sig (Elt F)) : Prop :=
  (s.mem ((c : Thread nD τ).loc main_arg0) = m ((c : Thread nD τ).loc main_arg0) ∧ s.mem ((c : Thread nD τ).loc main_v1) = outAt m c)
    ∧ ∀ sm : SemLoc sig, sm.isScoped .tc = false → s.sem ((c.tc : Thread nD τ), sm) = 0

theorem read_results (c : Dev nD) (s' : Phys nD τ sig (Elt F)) : iprop((results m c ∗ unscopedSems0 c) ∗ emp ∗ SI s')
    ⊢ (|={Set.univ}=> iprop(⌜QY m c s'.mem⌝ ∗ SI s') : sProp 𝕄) := by
  unfold results
  iintro ⟨⟨⟨Hx, Ho⟩, Hu⟩, -, HSI⟩
  icombine HSI Hx gives %hx
  icombine HSI Ho gives %ho
  ihave %hs := (tcUnscoped_read c s') $$ [Hu HSI]
  · isplitl [Hu] <;> iassumption
  imodintro
  isplitr
  · ipureintro
    exact ⟨⟨Buf.eq_of_forall_mem_univ hx, Buf.eq_of_forall_mem_univ ho⟩, hs⟩
  · iexact HSI

theorem ring_part (x : UB) : BI.own (((Emb.inl : Emb UB (UB × Counters)).trans embR) x) ⊢ (BI.own (ER x) : sProp 𝕄) := Entails.of_eq rfl

/-! ## The run -/

set_option maxRecDepth 8000 in
/-- From any memory with zero counters, for any float values: every weakly fair execution of @main on the eight devices
    ends, with each device's argument kept, its result `outAt`, and every counter back at zero. -/
theorem run_main : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_v1) = outAt m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := fun _ w => Fin.elim0 w)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (ring_part _) $$ HX
      imod (fund_ring m) $$ HX with HG
      imodintro
      isplitl [HP] <;> iassumption)
    (hglob := glob m)
    (hA := fun _ w => Fin.elim0 w) (hpf := fun _ k => k.elim0)
    (X := start m) (Y := fun c => iprop(results m c ∗ unscopedSems0 c)) (Z := fun _ => iprop(emp))
    (hX := start_intro m ρ) (hin := phi0_intro m) (hout := phi1_exit m)
    (QY := QY m) (hY := read_results m)
    (hQ := fun _ h hs => ⟨fun c => (h c).2.2.1, sem_eq_zero hs fun c => (h c).2.2.2⟩)

end Cert.Scan

end
-- ==== Proof.Sums.lean ====
/-
# Sums over an initial stretch of the rows

Facts about sums of extended reals `f 0 + … + f (n - 1)`, in which both programs' results are written: the sum of a list
folded from the left, a window that reaches past the start of the array, a row of a lower triangle of ones, and the sum
over the blocks that lie before one.
-/
module

public import Mathlib.Data.EReal.Operations
public import Mathlib.Algebra.BigOperators.Fin
public import Mathlib.Algebra.BigOperators.Intervals

@[expose] public section

namespace Cert.Scan

open Finset

/-- A list folded from the left by addition is the start plus the sum over the list. -/
theorem foldl_sum {ι : Type*} (g : ι → EReal) (l : List ι) (z : EReal) :
    l.foldl (fun r a => r + g a) z = z + (l.map g).sum := by
  induction l generalizing z with
  | nil => simp
  | cons a l ih => rw [List.foldl_cons, ih, List.map_cons, List.sum_cons, add_assoc]

/-- A window of `K + 1` places that ends at row `r`, zero where it reaches past the start: the rows up to `r`. -/
theorem sum_window (f : ℕ → EReal) {K r : ℕ} (hr : r ≤ K) :
    (∑ n ∈ range (K + 1), if K ≤ r + n then f (r + n - K) else 0) = ∑ n ∈ range (r + 1), f n := by
  obtain ⟨d, rfl⟩ := Nat.exists_eq_add_of_le hr
  rw [show r + d + 1 = d + (r + 1) by omega, sum_range_add, sum_eq_zero, zero_add]
  · refine sum_congr rfl fun n _ => ?_
    rw [if_pos (by omega)]
    congr 1
    omega
  · intro n hn
    rw [mem_range] at hn
    exact if_neg (by omega)

/-- Row `i` of the lower triangle of ones, times a column: the column's entries up to `i`. -/
theorem sum_triangle (f : ℕ → EReal) {N : ℕ} (i : Fin N) :
    (∑ k : Fin N, (if k ≤ i then (1 : EReal) else 0) * f k) = ∑ n ∈ range (i.val + 1), f n := by
  have hi := i.isLt
  have e : ∀ k : Fin N, (if k ≤ i then (1 : EReal) else 0) * f k = (fun n : ℕ => if n < i.val + 1 then f n else 0) k := fun k => by
    by_cases h : k ≤ i
    · have h' : k.val < i.val + 1 := Nat.lt_succ_of_le h
      simp only [if_pos h, if_pos h', one_mul]
    · have h' : ¬ k.val < i.val + 1 := fun q => h (Nat.le_of_lt_succ q)
      simp only [if_neg h, if_neg h', zero_mul]
  rw [sum_congr rfl fun k _ => e k, Fin.sum_univ_eq_sum_range (fun n : ℕ => if n < i.val + 1 then f n else 0) N, ← sum_filter]
  refine sum_congr (Finset.ext fun n => ?_) fun _ _ => rfl
  rw [mem_filter, mem_range, mem_range]
  omega

/-- The sums of the `c` blocks of `B` rows from the start, taken backwards from the last, add up to all their rows. -/
theorem sum_blocks (f : ℕ → EReal) (B c : ℕ) :
    (∑ o ∈ range c, ∑ n ∈ range B, f ((c - 1 - o) * B + n)) = ∑ n ∈ range (c * B), f n := by
  rw [sum_range_reflect (fun d => ∑ n ∈ range B, f (d * B + n)) c]
  induction c with
  | zero => simp
  | succ c ih => rw [sum_range_succ, ih, Nat.succ_mul, sum_range_add]

end Cert.Scan
-- ==== Proof.ChunkValue.lean ====
/-
# A chunk's running sums over the reals

What a device computes of its own block, entry by entry at the ideal floats: a chunk's running sums with the carried row
added are the sums of the block's columns from the block's first row on, and the row of totals is the sum of whole
columns.
-/
module

public import proofs.«01_k».proof.Proof.Contents
public import proofs.«01_k».proof.Proof.Sums
public import Idealize.ShloMosaic.Lib.Pointwise
public import Idealize.ShloMosaic.Lib.WordCmp

@[expose] public section

noncomputable section

namespace Cert.Scan

open Cert.KernelIdeal Cert.KernelIdeal.Gen
open Idealize.ShloMosaic Idealize.ShloMosaic.TcCoe

/-- The triangle: one up to the diagonal, zero above. -/
theorem tri_apply (i k : Fin 256) : (tri (F := Ideal)) (ix2 i k) = if k ≤ i then (1 : EReal) else 0 := by
  have hi := i.isLt
  have hk := k.isLt
  pointwise [tri, k0_pay1]
  rw [WordCmp.cmpi_sle_ofNat (by omega) (by omega)]
  by_cases h : k ≤ i
  · rw [if_pos h, decide_eq_true (Fin.le_def.mp h)]
    show (((1 : ℤ) : ℝ) : EReal) = 1
    norm_num
  · rw [if_neg h, decide_eq_false fun q => h (Fin.le_def.mpr q)]
    show (((0 : ℤ) : ℝ) : EReal) = 0
    norm_num

/-- One step: the chunk's columns summed down to the row, plus the carried row. -/
theorem step_apply (c : FVec Ideal S1x1024 .f32) (x : FVec Ideal S256x1024 .f32) (j : Fin 1024) (g : ℕ → EReal)
    (hx : ∀ i : Fin 256, x (ix2 i j) = g i.val) (i : Fin 256) :
    step (F := Ideal) c x (ix2 i j) = (∑ n ∈ Finset.range (i.val + 1), g n) + c (ix2 0 j) := by
  rw [← sum_triangle]
  unfold step
  pointwise [k0_pay5]
  simp only [tri_apply, hx]

theorem lastRow_apply (y : FVec Ideal S256x1024 .f32) (j : Fin 1024) : lastRow (F := Ideal) y (ix2 0 j) = y (ix2 255 j) := by
  pointwise [lastRow]

section Columns

variable (xs : Chunks Ideal) (j : Fin 1024) (g : ℕ → EReal) (hx : ∀ (k : Fin 8) (i : Fin 256), xs k (ix2 i j) = g (k.val * 256 + i.val))
include hx

/-- A chunk's running sums, from what is carried into it. -/
theorem cumF_of_carry (k : Fin 8) (hc : carry xs k.val (ix2 0 j) = ∑ n ∈ Finset.range (k.val * 256), g n) (i : Fin 256) :
    cumF xs k (ix2 i j) = ∑ n ∈ Finset.range (k.val * 256 + (i.val + 1)), g n := by
  unfold cumF
  rw [step_apply (carry xs k.val) (xs k) j (fun n => g (k.val * 256 + n)) (hx k) i, hc, Finset.sum_range_add g (k.val * 256), add_comm]

/-- What is carried: the column sums of the chunks before. -/
theorem carry_apply (k : ℕ) (hk : k ≤ 8) : carry xs k (ix2 0 j) = ∑ n ∈ Finset.range (k * 256), g n := by
  induction k with
  | zero => show Ideal.ofBits .f32 0x00000000#32 = _; rw [Ideal.ofBits_zero_f32]; simp
  | succ k ih =>
    rw [carry_succ xs ⟨k, hk⟩, lastRow_apply, cumF_of_carry xs j g hx ⟨k, hk⟩ (ih (by omega)) 255, Nat.succ_mul]
    rfl

/-- A chunk's running sums: the block's columns summed from the block's first row. -/
theorem cumF_apply (k : Fin 8) (i : Fin 256) : cumF xs k (ix2 i j) = ∑ n ∈ Finset.range (k.val * 256 + (i.val + 1)), g n :=
  cumF_of_carry xs j g hx k (carry_apply xs j g hx k.val k.isLt.le) i

/-- The same as stored: rounding is the identity over the reals. -/
theorem cum_apply (k : Fin 8) (i : Fin 256) : cum xs k (ix2 i j) = ∑ n ∈ Finset.range (k.val * 256 + (i.val + 1)), g n := by
  rw [← cumF_apply xs j g hx k i]
  pointwise [cum]

/-- The row of totals: the block's column sums. -/
theorem total_apply : total xs (ix3 0 0 j) = ∑ n ∈ Finset.range 2048, g n := by
  refine Eq.trans ?_ (cumF_apply xs j g hx 7 255)
  pointwise [total, lastRow]

end Columns

/-- A chunk of the result: the stored running sums plus the row. -/
theorem final_apply (row : FVec Ideal S1x1024 .f32) (w : Vec Ideal S256x1024 .bf16) (i : Fin 256) (j : Fin 1024) :
    final (F := Ideal) row w (ix2 i j) = w (ix2 i j) + row (ix2 0 j) := by
  pointwise [final, k0_pay25]

/-- The row a device adds: of the seven rows of totals it received, the first as many as there are devices before it. -/
theorem cross_apply (c : Dev nD) (t : Fin 8 → Vec Ideal S1x1x1024 .f32) (j : Fin 1024) :
    cross (F := Ideal) c t (ix2 0 j) = ∑ o ∈ Finset.range c.val, t ⟨(o + 1) % 8, Nat.mod_lt _ (by decide)⟩ (ix3 0 0 j) := by
  have hc : devWord c = BitVec.ofNat 32 c.val := by fin_cases c <;> rfl
  unfold cross
  rw [hc]
  pointwise [k0_pay24, k0_pay22, k0_pay23]
  fin_cases c <;> simp [Scalar.select, Scalar.cmpi, IntOp.cmpi, Finset.sum_range_succ] <;> rfl

end Cert.Scan

end
-- ==== Proof.RefValue.lean ====
/-
# The reference's result at an entry

The reference's running sum of the columns, over the reals: entry `(r, j)` is the sum of column `j`'s entries up to row
`r`.
-/
module

public import proofs.«01_k».proof.Proof.Sums
public import proofs.«01_k».proof.Proof.Gen.ReferenceIdeal.Run
public import Idealize.ShloMosaic.Lib.Pointwise
public import Idealize.ShloMosaic.Lib.Routing.OpsOne

@[expose] public section

noncomputable section

namespace Cert.Scan

open Idealize.ShloMosaic Idealize.ShloMosaic.TcCoe

/-- Column `j` of an array, counted from its first row (zero past its last). -/
def col {R C : ℕ} (x : (⟨2, ![R, C]⟩ : Shape).Idx → EReal) (j : Fin C) (n : ℕ) : EReal :=
  if h : n < R then x (ix2 ⟨n, h⟩ j) else 0

theorem col_val {R C : ℕ} (x : (⟨2, ![R, C]⟩ : Shape).Idx → EReal) (r : Fin R) (j : Fin C) : col x j r.val = x (ix2 r j) :=
  dif_pos r.isLt

/-- A window as high as the array and one column wide, padded low by one less: the sum of the column's entries up to the
row. -/
theorem window_apply {R K C : ℕ} (hR : K + 1 = R) (x : (⟨2, ![R, C]⟩ : Shape).Idx → EReal)
    (h : (⟨2, ![R, C]⟩ : Shape).ReduceWindows (![R, 1] : Fin 2 → Nat) ![1, 1] ![K, 0] ![0, 0] ⟨2, ![R, C]⟩)
    (r : Fin R) (j : Fin C) :
    Ideal.hostReduceWindowAdd ![R, 1] ![1, 1] ![K, 0] ![0, 0] h x 0 (ix2 r j) = ∑ n ∈ Finset.range (r.val + 1), col x j n := by
  subst hR
  have hr := r.isLt
  have hj := j.isLt
  have place0 : ∀ n : Fin (⟨2, ![K + 1, 1]⟩ : Shape).numel, ((⟨2, ![K + 1, 1]⟩ : Shape).rowMajor.symm n 0).val = n.val :=
    fun n => by rw [Routing.symm_col]; rfl
  have place1 : ∀ n : Fin (⟨2, ![K + 1, 1]⟩ : Shape).numel, ((⟨2, ![K + 1, 1]⟩ : Shape).rowMajor.symm n 1).val = 0 :=
    fun n => by rw [Routing.symm_col]; rfl
  unfold Ideal.hostReduceWindowAdd Host.reduceWindow
  refine (foldl_sum _ _ _).trans ?_
  rw [zero_add]
  refine (congrArg List.sum (List.map_congr_left
    (g := fun n => (fun n : ℕ => if K ≤ r.val + n then col x j (r.val + n - K) else 0) n.val) fun n _ => ?_)).trans ?_
  · have hn : n.val < K + 1 := (n.cast (Routing.numel_col _)).isLt
    dsimp only
    split
    · next hin =>
      have h0 := hin 0
      change K ≤ r.val * 1 + ((⟨2, ![K + 1, 1]⟩ : Shape).rowMajor.symm n 0).val
        ∧ r.val * 1 + ((⟨2, ![K + 1, 1]⟩ : Shape).rowMajor.symm n 0).val - K < K + 1 at h0
      rw [place0] at h0
      have hlt : r.val + n.val - K < K + 1 := by omega
      rw [if_pos (by omega), col, dif_pos hlt]
      refine congrArg x (funext fun a => Fin.ext ?_)
      match a with
      | ⟨0, _⟩ =>
        show r.val * 1 + ((⟨2, ![K + 1, 1]⟩ : Shape).rowMajor.symm n 0).val - K = r.val + n.val - K
        rw [place0, Nat.mul_one]
      | ⟨1, _⟩ =>
        show j.val * 1 + ((⟨2, ![K + 1, 1]⟩ : Shape).rowMajor.symm n 1).val - 0 = j.val
        rw [place1]; omega
    · next hout =>
      refine (if_neg fun hle => hout fun a => ?_).symm
      match a with
      | ⟨0, _⟩ =>
        show K ≤ r.val * 1 + ((⟨2, ![K + 1, 1]⟩ : Shape).rowMajor.symm n 0).val
          ∧ r.val * 1 + ((⟨2, ![K + 1, 1]⟩ : Shape).rowMajor.symm n 0).val - K < K + 1
        rw [place0]; omega
      | ⟨1, _⟩ =>
        show 0 ≤ j.val * 1 + ((⟨2, ![K + 1, 1]⟩ : Shape).rowMajor.symm n 1).val
          ∧ j.val * 1 + ((⟨2, ![K + 1, 1]⟩ : Shape).rowMajor.symm n 1).val - 0 < C
        rw [place1]; omega
  · rw [← Fin.sum_univ_def, Fin.sum_univ_eq_sum_range (fun n : ℕ => if K ≤ r.val + n then col x j (r.val + n - K) else 0)]
    rw [Routing.numel_col]
    exact sum_window (col x j) (Nat.le_of_lt_succ hr)

open Cert.ReferenceIdeal Cert.ReferenceIdeal.Gen in
/-- The reference's result of an argument. -/
def refOut (x : (⟨2, ![16384, 1024]⟩ : Shape).Idx → EReal) : (⟨2, ![16384, 1024]⟩ : Shape).Idx → EReal :=
  truncf (F := Ideal) (φ := .f32) .bf16 (Host.reduceWindowAdd (F := Ideal) (φ := .f32) ![16384, 1] ![1, 1] ![16383, 0] ![0, 0] x
    (broadcastInDim S_ ![] bcast_S_S_ (constant S_ .f32 0x00000000#32))
    reduceWindows_S16384x1024_S16384x1024_w16384s1p16383_0_w1s1p0_0 h_S_) bitsLt_bf16_f32

/-- Its entry `(r, j)`: the sum of column `j` up to row `r`. -/
theorem refOut_apply (x : (⟨2, ![16384, 1024]⟩ : Shape).Idx → EReal) (r : Fin 16384) (j : Fin 1024) :
    refOut x (ix2 r j) = ∑ n ∈ Finset.range (r.val + 1), col x j n := by
  have hz : ∀ i, broadcastInDim Cert.ReferenceIdeal.S_ ![] Cert.ReferenceIdeal.Gen.bcast_S_S_
      (constant (F := Ideal) Cert.ReferenceIdeal.S_ .f32 0x00000000#32) i = 0 := fun i => by pointwise
  have ht : ∀ (y : FVec Ideal ⟨2, ![16384, 1024]⟩ .f32) i, truncf (F := Ideal) .bf16 y Cert.ReferenceIdeal.Gen.bitsLt_bf16_f32 i = y i := fun y i => by pointwise
  unfold refOut Host.reduceWindowAdd
  rw [ht, Ideal.hostReduceWindowAdd_def, hz]
  exact window_apply (K := 16383) rfl x _ r j

end Cert.Scan

end
-- ==== Proof.Value.lean ====
/-
# The kernel's result is the reference's, block by block

Column `j` of the whole argument, counted from its first row, is one sequence. Chunk `k` of device `c` holds the stretch
of it that starts at row `2048 c + 256 k`. Entry by entry, the result of device `c` is the sum over the rows of the
devices before it, plus the sum over its own rows down to the entry's: the reference's sum over all the rows down to it.
-/
module

public import proofs.«01_k».proof.Proof.ChunkValue
public import proofs.«01_k».proof.Proof.RefValue
public import Idealize.ShloMosaic.Lib.Layout

@[expose] public section

noncomputable section

namespace Cert.Scan

open Cert.KernelIdeal Cert.KernelIdeal.Gen
open Idealize.ShloMosaic Idealize.ShloMosaic.TcCoe

/-- The eight devices' blocks of rows tile the whole array. -/
theorem tiles : Layout.Tiles ⟨2, ![2048, 1024]⟩ ⟨2, ![16384, 1024]⟩ 0 8 := by decide

variable (m : (ℓ : Loc nD τ sig) → Buf (Elt Ideal) ℓ) (x : (⟨2, ![16384, 1024]⟩ : Shape).Idx → EReal)
variable (hm : ∀ c : Dev nD, argAt m c = Layout.block ⟨2, ![2048, 1024]⟩ ⟨2, ![16384, 1024]⟩ 0 8 c x tiles)
include hm

/-- An entry of a device's chunk is its entry of the whole argument. -/
theorem chunk_apply (c : Dev nD) (j : Fin 1024) (k : Fin 8) (i : Fin 256) :
    chunksAt m c k (ix2 i j) = col x j (c.val * 2048 + (k.val * 256 + i.val)) := by
  have hc : c.val < 8 := c.isLt
  have hlt : c.val * 2048 + (k.val * 256 + i.val) < 16384 := by omega
  unfold chunksAt
  rw [hm c, Layout.block_apply, col, dif_pos hlt]
  refine congrArg x (funext fun a => Fin.ext ?_)
  match a with
  | ⟨0, _⟩ =>
    show c.val * 2048 + (256 * k.val + 1 * i.val) = c.val * 2048 + (k.val * 256 + i.val)
    omega
  | ⟨1, _⟩ =>
    show 0 + 1 * j.val = j.val
    omega

/-- A device's row of totals: the sum over its rows. -/
theorem tot_apply (c : Dev nD) (j : Fin 1024) : totAt m c (ix3 0 0 j) = ∑ n ∈ Finset.range 2048, col x j (c.val * 2048 + n) := by
  unfold totAt
  exact total_apply (chunksAt m c) j (fun n => col x j (c.val * 2048 + n)) (chunk_apply m x hm c j)

/-- The row a device adds: the sum over the rows of the devices before it. -/
theorem row_apply (c : Dev nD) (j : Fin 1024) : rowAt m c (ix2 0 j) = ∑ n ∈ Finset.range (c.val * 2048), col x j n := by
  have hc : c.val < 8 := c.isLt
  refine (cross_apply c (fun o => totAt m (bwd c o)) j).trans (Eq.trans ?_ (sum_blocks (col x j) 2048 c.val))
  refine Finset.sum_congr rfl fun o ho => ?_
  rw [Finset.mem_range] at ho
  have e : (bwd c ⟨(o + 1) % 8, Nat.mod_lt _ (by decide)⟩).val = c.val - 1 - o := by
    show (c.val + (8 - (o + 1) % 8)) % 8 = c.val - 1 - o
    omega
  rw [tot_apply m x hm, e]

/-- A device's result is its block of the reference's. -/
theorem out_eq (c : Dev nD) : outAt m c = Layout.block ⟨2, ![2048, 1024]⟩ ⟨2, ![16384, 1024]⟩ 0 8 c (refOut x) tiles := by
  funext i
  have hc : c.val < 8 := c.isLt
  have h0 : (i 0).val < 2048 := (i 0).isLt
  have h1 : (i 1).val < 1024 := (i 1).isLt
  have hp : placeOf i = ix2 (⟨(i 0).val % 256, Nat.mod_lt _ (by decide)⟩ : Fin 256) (⟨(i 1).val, h1⟩ : Fin 1024) := by
    funext a
    match a with
    | ⟨0, _⟩ => rfl
    | ⟨1, _⟩ => rfl
  have hi : tiles.idx c i = ix2 (⟨c.val * 2048 + (i 0).val, by omega⟩ : Fin 16384) (⟨(i 1).val, h1⟩ : Fin 1024) := by
    funext a
    match a with
    | ⟨0, _⟩ => rfl
    | ⟨1, _⟩ => rfl
  rw [Layout.block_apply, hi, refOut_apply]
  unfold outAt finalAt
  rw [hp, final_apply, cum_apply (chunksAt m c) ⟨(i 1).val, h1⟩ (fun n => col x ⟨(i 1).val, h1⟩ (c.val * 2048 + n)) (chunk_apply m x hm c _),
    row_apply m x hm, add_comm, ← Finset.sum_range_add (col x _) (c.val * 2048)]
  refine congrArg (fun b => ∑ n ∈ Finset.range b, col x ⟨(i 1).val, h1⟩ n) ?_
  show c.val * 2048 + ((i 0).val / 256 * 256 + ((i 0).val % 256 + 1)) = c.val * 2048 + (i 0).val + 1
  omega

end Cert.Scan

end
-- ==== Proof.lean ====
/-
# The claims about the prefix sum over eight devices

The run of the kernel is proved once, over any float values (Proof/Run.lean). Each frame is that run with the values
dropped; the value claim is the run at the extended reals, with the equation of Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as compiled: the run, its values dropped. -/
theorem frame_kernel : Cert.quiescent_Kernel := fun m ρ _ =>
  (θ_run Cert.KernelIdeal.defs _ _).mono (fun _ h => ⟨fun c => (h.1 c).1, h.2⟩) (Cert.Scan.run_main (F := Bits) m ρ)

/-- The same of its idealization. -/
theorem frame_ideal : Cert.quiescent_KernelIdeal := fun m ρ _ =>
  (θ_run Cert.KernelIdeal.defs _ _).mono (fun _ h => ⟨fun c => (h.1 c).1, h.2⟩) (Cert.Scan.run_main (F := Ideal) m ρ)

/-- The reference has no semaphore, and keeps its argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals each device's result is its block of the reference's. -/
theorem algebraic : Cert.algebraic_KernelIdeal_ReferenceIdeal := fun m g m' g' _ hm =>
  ⟨Cert.Scan.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.Scan.out_eq m _ hm c), (h.1 c).1⟩)
      (Cert.Scan.run_main (F := Ideal) m g),
    (θ_run Cert.ReferenceIdeal.defs _ _).mono (fun _ h => h 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
